-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_stream [hPre_fresh_stream : Cert.Pre_fresh_stream.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_stream.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_stream [hPre_fresh_stream : Cert.Pre_fresh_stream.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_stream.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_fresh_stream [hKernelIdeal : Cert.KernelIdeal.Facts] [hPre_fresh_stream : Cert.Pre_fresh_stream.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_stream m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_fresh_stream [hReferenceIdeal : Cert.ReferenceIdeal.Facts] [hPre_fresh_stream : Cert.Pre_fresh_stream.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_stream m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_fresh_stream [hKernelIdeal : Cert.KernelIdeal.Facts] [hReferenceIdeal : Cert.ReferenceIdeal.Facts] [hPre_fresh_stream : Cert.Pre_fresh_stream.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_stream m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v4_3) = v1 c
          ∧ r.2.mem ((c.tc : Thread Cert.ReferenceIdeal.nD Cert.ReferenceIdeal.τ).loc Cert.ReferenceIdeal.main_v4_4) = v2 c
          ∧ r.2.mem ((c.tc : Thread Cert.ReferenceIdeal.nD Cert.ReferenceIdeal.τ).loc Cert.ReferenceIdeal.main_v4_5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_fresh_stream : Cert.Pre_fresh_stream.Facts),
    quiescent_Kernel (hKernel := hKernel)
    ∧ quiescent_KernelIdeal (hKernelIdeal := hKernelIdeal)
    ∧ quiescent_KernelIdeal_pre_fresh_stream (hKernelIdeal := hKernelIdeal) (hPre_fresh_stream := hPre_fresh_stream)
    ∧ quiescent_ReferenceIdeal (hReferenceIdeal := hReferenceIdeal)
    ∧ quiescent_ReferenceIdeal_pre_fresh_stream (hReferenceIdeal := hReferenceIdeal) (hPre_fresh_stream := hPre_fresh_stream)
    ∧ preserves_Kernel_KernelIdeal
    ∧ algebraic_KernelIdeal_ReferenceIdeal_pre_fresh_stream (hKernelIdeal := hKernelIdeal) (hReferenceIdeal := hReferenceIdeal) (hPre_fresh_stream := hPre_fresh_stream)
-- ==== Pre_fresh_stream.lean ====
abbrev S8x4096x2048 : Shape := ⟨3, ![8, 4096, 2048]⟩
abbrev S8x4096 : Shape := ⟨2, ![8, 4096]⟩
abbrev S8 : Shape := ⟨1, ![8]⟩
abbrev S8x32 : Shape := ⟨2, ![8, 32]⟩
abbrev S2048 : Shape := ⟨1, ![2048]⟩
abbrev S_ : Shape := ⟨0, ![]⟩

class Facts : Prop where
  reducesTo_S8x4096_S_d0_1 : S8x4096.ReducesTo [0, 1] S_
  h_S_ : 0 < S_.numel
  bcast_S_S8 : S_.BroadcastsInDim S8 (![] : Fin 0 → Fin S8.rank)
  reducesTo_S8_S_d0 : S8.ReducesTo [0] S_
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x32 : S_.BroadcastsInDim S8x32 (![] : Fin 0 → Fin S8x32.rank)
  reducesTo_S8x32_S_d0_1 : S8x32.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S8x32 .f32) (main_v14 : IVec S_ 1) (main_v15 : FVec F S2048 .f32) (main_cst_5 : FVec F S_ .f32) : IVec S_ 1 :=
  let main_v16 : FVec F S2048 .f32 := broadcastInDim S2048 ![] bcast_S_S2048 main_cst_5
  let main_v17 : IVec S2048 1 := cmpf .olt main_v15 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v14 main_v18
  let main_cst_7 : FVec F S_ .f32 := constant S_ .f32 0x3727C5AC#32
  let main_v20 : FVec F S8x32 .f32 := broadcastInDim S8x32 ![] bcast_S_S8x32 main_cst_7
  let main_v21 : FVec F S8x32 .f32 := addf main_arg4 main_v20
  let main_cst_8 : FVec F S_ .f32 := constant S_ .f32 0x00000000#32
  let main_v22 : FVec F S8x32 .f32 := broadcastInDim S8x32 ![] bcast_S_S8x32 main_cst_8
  let main_v23 : IVec S8x32 1 := cmpf .ogt main_v21 main_v22
  let main_c_9 : IVec S_ 1 := constantI S_ 1 1#1
  let main_v24 : IVec S_ 1 := (fun x v => Host.reduce IntOp.andi x v reducesTo_S8x32_S_d0_1 h_S_) main_v23 main_c_9
  let main_v25 : IVec S_ 1 := andi main_v19 main_v24
  main_v25

def fn {F : FTy → Type} [FloatOps F] (main_arg0 : FVec F S8x4096x2048 .f32) (main_arg1 : IVec S8x4096 1) (main_arg2 : IVec S8 32) (main_arg3 : FVec F S8x32 .f32) (main_arg4 : FVec F S8x32 .f32) (main_arg5 : FVec F S2048 .f32) (main_arg6 : FVec F S2048 .f32) : IVec S_ 1 :=
  let main_c : IVec S_ 1 := constantI S_ 1 1#1
  let main_v0 : IVec S_ 1 := (fun x v => Host.reduce IntOp.andi x v reducesTo_S8x4096_S_d0_1 h_S_) main_arg1 main_c
  let main_c_0 : IVec S_ 32 := constantI S_ 32 0#32
  let main_v1 : IVec S8 32 := broadcastInDim S8 ![] bcast_S_S8 main_c_0
  let main_v2 : IVec S8 1 := cmpi .eq main_arg2 main_v1
  let main_c_1 : IVec S_ 1 := constantI S_ 1 1#1
  let main_v3 : IVec S_ 1 := (fun x v => Host.reduce IntOp.andi x v reducesTo_S8_S_d0 h_S_) main_v2 main_c_1
  let main_v4 : IVec S_ 1 := andi main_v0 main_v3
  let main_v5 : FVec F S8x4096x2048 .f32 := Host.absf main_arg0
  let main_cst : FVec F S_ .f32 := constant S_ .f32 0x7F800000#32
  let main_v6 : FVec F S8x4096x2048 .f32 := broadcastInDim S8x4096x2048 ![] bcast_S_S8x4096x2048 main_cst
  let main_v7 : IVec S8x4096x2048 1 := cmpf .olt main_v5 main_v6
  let main_c_2 : IVec S_ 1 := constantI S_ 1 1#1
  let main_v8 : IVec S_ 1 := (fun x v => Host.reduce IntOp.andi x v reducesTo_S8x4096x2048_S_d0_1_2 h_S_) main_v7 main_c_2
  let main_v9 : IVec S_ 1 := andi main_v4 main_v8
  let main_v10 : FVec F S8x32 .f32 := Host.absf main_arg3
  let main_cst_3 : FVec F S_ .f32 := constant S_ .f32 0x7F800000#32
  let main_v11 : FVec F S8x32 .f32 := broadcastInDim S8x32 ![] bcast_S_S8x32 main_cst_3
  let main_v12 : IVec S8x32 1 := cmpf .olt main_v10 main_v11
  let main_c_4 : IVec S_ 1 := constantI S_ 1 1#1
  let main_v13 : IVec S_ 1 := (fun x v => Host.reduce IntOp.andi x v reducesTo_S8x32_S_d0_1 h_S_) main_v12 main_c_4
  let main_v14 : IVec S_ 1 := andi main_v9 main_v13
  let main_v15 : FVec F S2048 .f32 := Host.absf main_arg5
  let main_cst_5 : FVec F S_ .f32 := constant S_ .f32 0x7F800000#32
  fn_part1 (F := F) main_arg4 main_v14 main_v15 main_cst_5
-- ==== Kernel.lean ====
abbrev S8x4096x2048 : Shape := ⟨3, ![8, 4096, 2048]⟩
abbrev S8x4096 : Shape := ⟨2, ![8, 4096]⟩
abbrev S8 : Shape := ⟨1, ![8]⟩
abbrev S8x32 : Shape := ⟨2, ![8, 32]⟩
abbrev S2048 : Shape := ⟨1, ![2048]⟩
abbrev S8x1x32 : Shape := ⟨3, ![8, 1, 32]⟩
abbrev S32 : Shape := ⟨1, ![32]⟩
abbrev S2048x1 : Shape := ⟨2, ![2048, 1]⟩
abbrev S_ : Shape := ⟨0, ![]⟩
abbrev S1x32 : Shape := ⟨2, ![1, 32]⟩
abbrev S2048x32 : Shape := ⟨2, ![2048, 32]⟩
abbrev S32x2048 : Shape := ⟨2, ![32, 2048]⟩
abbrev S1x2048 : Shape := ⟨2, ![1, 2048]⟩
abbrev S64x2048 : Shape := ⟨2, ![64, 2048]⟩
abbrev S65x2048 : Shape := ⟨2, ![65, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x512 : Shape := ⟨2, ![256, 512]⟩
abbrev S1x1024x2048 : Shape := ⟨3, ![1, 1024, 2048]⟩
abbrev S1x1x32 : Shape := ⟨3, ![1, 1, 32]⟩
abbrev S2x32 : Shape := ⟨2, ![2, 32]⟩
abbrev S1x256x2048 : Shape := ⟨3, ![1, 256, 2048]⟩
abbrev S256x2048 : Shape := ⟨2, ![256, 2048]⟩
abbrev S256x32 : Shape := ⟨2, ![256, 32]⟩
abbrev S512x32 : Shape := ⟨2, ![512, 32]⟩
abbrev S256x64 : Shape := ⟨2, ![256, 64]⟩
abbrev S256x65 : Shape := ⟨2, ![256, 65]⟩

abbrev nBuf : Space → Nat
  | .hbm => 63
  | .vmem => 15
  | .smem => 0
  | _ => 0

abbrev bufTy : (tb : Table) → Fin (tcTables nBuf tb) → BufTy
  | .hbm, ⟨0, _⟩ => ⟨S8x4096x2048, .f32⟩
  | .hbm, ⟨1, _⟩ => ⟨S8x4096, .i1⟩
  | .hbm, ⟨2, _⟩ => ⟨S8, .i32⟩
  | .hbm, ⟨3, _⟩ => ⟨S8x32, .f32⟩
  | .hbm, ⟨4, _⟩ => ⟨S8x32, .f32⟩
  | .hbm, ⟨5, _⟩ => ⟨S2048, .f32⟩
  | .hbm, ⟨6, _⟩ => ⟨S2048, .f32⟩
  | .hbm, ⟨7, _⟩ => ⟨S8x1x32, .f32⟩
  | .hbm, ⟨8, _⟩ => ⟨S2048, .i32⟩
  | .hbm, ⟨9, _⟩ => ⟨S32, .i32⟩
  | .hbm, ⟨10, _⟩ => ⟨S2048x1, .i32⟩
  | .hbm, ⟨11, _⟩ => ⟨S_, .i32⟩
  | .hbm, ⟨12, _⟩ => ⟨S_, .i32⟩
  | .hbm, ⟨13, _⟩ => ⟨S2048x1, .i32⟩
  | .hbm, ⟨14, _⟩ => ⟨S2048x1, .i32⟩
  | .hbm, ⟨15, _⟩ => ⟨S2048x1, .i32⟩
  | .hbm, ⟨16, _⟩ => ⟨S_, .i32⟩
  | .hbm, ⟨17, _⟩ => ⟨S2048x1, .i32⟩
  | .hbm, ⟨18, _⟩ => ⟨S2048x1, .i1⟩
  | .hbm, ⟨19, _⟩ => ⟨S2048x1, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x1, .i1⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .i32⟩
  | .hbm, ⟨29, _⟩ => ⟨S1x32, .i32⟩
  | .hbm, ⟨30, _⟩ => ⟨S2048x32, .i32⟩
  | .hbm, ⟨31, _⟩ => ⟨S2048x32, .i32⟩
  | .hbm, ⟨32, _⟩ => ⟨S2048x32, .i1⟩
  | .hbm, ⟨33, _⟩ => ⟨S2048x32, .f32⟩
  | .hbm, ⟨34, _⟩ => ⟨S2048x32, .bf16⟩
  | .hbm, ⟨35, _⟩ => ⟨S32x2048, .f32⟩
  | .hbm, ⟨36, _⟩ => ⟨S1x2048, .f32⟩
  | .hbm, ⟨37, _⟩ => ⟨S32x2048, .f32⟩
  | .hbm, ⟨38, _⟩ => ⟨S32x2048, .f32⟩
  | .hbm, ⟨39, _⟩ => ⟨S32x2048, .bf16⟩
  | .hbm, ⟨40, _⟩ => ⟨S64x2048, .bf16⟩
  | .hbm, ⟨41, _⟩ => ⟨S32x2048, .bf16⟩
  | .hbm, ⟨42, _⟩ => ⟨S32x2048, .bf16⟩
  | .hbm, ⟨43, _⟩ => ⟨S1x2048, .f32⟩
  | .hbm, ⟨44, _⟩ => ⟨S1x2048, .bf16⟩
  | .hbm, ⟨45, _⟩ => ⟨S65x2048, .bf16⟩
  | .hbm, ⟨46, _⟩ => ⟨S256, .i32⟩
  | .hbm, ⟨47, _⟩ => ⟨S256x1, .i32⟩
  | .hbm, ⟨48, _⟩ => ⟨S1x256, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .bf16⟩
  | .hbm, ⟨53, _⟩ => ⟨S256x512, .bf16⟩
  | .hbm, ⟨54, _⟩ => ⟨S8x4096x2048, .f32⟩
  | .hbm, ⟨55, _⟩ => ⟨S8x1x32, .f32⟩
  | .hbm, ⟨56, _⟩ => ⟨S8x1x32, .f32⟩
  | .hbm, ⟨57, _⟩ => ⟨S8x4096, .i32⟩
  | .hbm, ⟨58, _⟩ => ⟨S_, .i32⟩
  | .hbm, ⟨59, _⟩ => ⟨S8, .i32⟩
  | .hbm, ⟨60, _⟩ => ⟨S8, .i32⟩
  | .hbm, ⟨61, _⟩ => ⟨S8x32, .f32⟩
  | .hbm, ⟨62, _⟩ => ⟨S8x32, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x32, .f32⟩
  | .local _ .vmem, ⟨3, _⟩ => ⟨S1x1x32, .f32⟩
  | .local _ .vmem, ⟨4, _⟩ => ⟨S2048x32, .bf16⟩
  | .local _ .vmem, ⟨5, _⟩ => ⟨S256x512, .bf16⟩
  | .local _ .vmem, ⟨6, _⟩ => ⟨S64x2048, .bf16⟩
  | .local _ .vmem, ⟨7, _⟩ => ⟨S65x2048, .bf16⟩
  | .local _ .vmem, ⟨8, _⟩ => ⟨S1x1024x2048, .f32⟩
  | .local _ .vmem, ⟨9, _⟩ => ⟨S1x1024x2048, .f32⟩
  | .local _ .vmem, ⟨10, _⟩ => ⟨S1x1x32, .f32⟩
  | .local _ .vmem, ⟨11, _⟩ => ⟨S1x1x32, .f32⟩
  | .local _ .vmem, ⟨12, _⟩ => ⟨S1x1x32, .f32⟩
  | .local _ .vmem, ⟨13, _⟩ => ⟨S1x1x32, .f32⟩
  | .local _ .vmem, ⟨14, _⟩ => ⟨S2x32, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_v30_2 : Ref sig .tc := ⟨.hbm, 56, rfl⟩
abbrev main_v31 : Ref sig .tc := ⟨.hbm, 57, rfl⟩
abbrev main_c_0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S65x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x4096x2048 : Shape := ⟨3, ![8, 4096, 2048]⟩
abbrev S8x4096 : Shape := ⟨2, ![8, 4096]⟩
abbrev S8 : Shape := ⟨1, ![8]⟩
abbrev S8x32 : Shape := ⟨2, ![8, 32]⟩
abbrev S2048 : Shape := ⟨1, ![2048]⟩
abbrev S8x4096x32x64 : Shape := ⟨4, ![8, 4096, 32, 64]⟩
abbrev S4096x8x32x64 : Shape := ⟨4, ![4096, 8, 32, 64]⟩
abbrev S4096x8 : Shape := ⟨2, ![4096, 8]⟩
abbrev S_ : Shape := ⟨0, ![]⟩
abbrev S1x8x32x64 : Shape := ⟨4, ![1, 8, 32, 64]⟩
abbrev S8x32x64 : Shape := ⟨3, ![8, 32, 64]⟩
abbrev S1x8 : Shape := ⟨2, ![1, 8]⟩
abbrev S8x1 : Shape := ⟨2, ![8, 1]⟩
abbrev S8x32x1 : Shape := ⟨3, ![8, 32, 1]⟩
abbrev S1x1x32x64 : Shape := ⟨4, ![1, 1, 32, 64]⟩

abbrev nBuf : Space → Nat
  | .hbm => 89
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096, .i1⟩
  | .hbm, ⟨2, _⟩ => ⟨S8, .i32⟩
  | .hbm, ⟨3, _⟩ => ⟨S8x32, .f32⟩
  | .hbm, ⟨4, _⟩ => ⟨S8x32, .f32⟩
  | .hbm, ⟨5, _⟩ => ⟨S2048, .f32⟩
  | .hbm, ⟨6, _⟩ => ⟨S2048, .f32⟩
  | .hbm, ⟨7, _⟩ => ⟨S8x4096x32x64, .f32⟩
  | .hbm, ⟨8, _⟩ => ⟨S4096x8x32x64, .f32⟩
  | .hbm, ⟨9, _⟩ => ⟨S4096x8, .i1⟩
  | .hbm, ⟨10, _⟩ => ⟨S_, .f32⟩
  | .hbm, ⟨11, _⟩ => ⟨S4096x8x32x64, .f32⟩
  | .hbm, ⟨12, _⟩ => ⟨S_, .i32⟩
  | .hbm, ⟨13, _⟩ => ⟨S4096x8x32x64, .f32⟩
  | .hbm, ⟨14, _⟩ => ⟨S4096x8, .i1⟩
  | .hbm, ⟨15, _⟩ => ⟨S_, .i32⟩
  | .hbm, ⟨16, _⟩ => ⟨S8, .i32⟩
  | .hbm, ⟨17, _⟩ => ⟨S8x32, .f32⟩
  | .hbm, ⟨18, _⟩ => ⟨S8x32, .f32⟩
  | .hbm, ⟨19, _⟩ => ⟨S4096x8x32x64, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x8x32x64, .f32⟩
  | .hbm, ⟨26, _⟩ => ⟨S8x32x64, .f32⟩
  | .hbm, ⟨27, _⟩ => ⟨S_, .i32⟩
  | .hbm, ⟨28, _⟩ => ⟨S1x8, .i1⟩
  | .hbm, ⟨29, _⟩ => ⟨S8, .i1⟩
  | .hbm, ⟨30, _⟩ => ⟨S_, .f32⟩
  | .hbm, ⟨31, _⟩ => ⟨S8x32, .f32⟩
  | .hbm, ⟨32, _⟩ => ⟨S_, .f32⟩
  | .hbm, ⟨33, _⟩ => ⟨S8x32, .f32⟩
  | .hbm, ⟨34, _⟩ => ⟨S8x32, .f32⟩
  | .hbm, ⟨35, _⟩ => ⟨S8, .f32⟩
  | .hbm, ⟨36, _⟩ => ⟨S8x1, .f32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i32⟩
  | .hbm, ⟨42, _⟩ => ⟨S8, .f32⟩
  | .hbm, ⟨43, _⟩ => ⟨S8x1, .f32⟩
  | .hbm, ⟨44, _⟩ => ⟨S8x32, .f32⟩
  | .hbm, ⟨45, _⟩ => ⟨S8x32, .f32⟩
  | .hbm, ⟨46, _⟩ => ⟨S8x32, .f32⟩
  | .hbm, ⟨47, _⟩ => ⟨S8x32, .f32⟩
  | .hbm, ⟨48, _⟩ => ⟨S8x32, .f32⟩
  | .hbm, ⟨49, _⟩ => ⟨S8x32, .f32⟩
  | .hbm, ⟨50, _⟩ => ⟨S_, .i32⟩
  | .hbm, ⟨51, _⟩ => ⟨S8, .i32⟩
  | .hbm, ⟨52, _⟩ => ⟨S8, .i32⟩
  | .hbm, ⟨53, _⟩ => ⟨S8, .f32⟩
  | .hbm, ⟨54, _⟩ => ⟨S8x1, .f32⟩
  | .hbm, ⟨55, _⟩ => ⟨S8x32, .f32⟩
  | .hbm, ⟨56, _⟩ => ⟨S8x32, .f32⟩
  | .hbm, ⟨57, _⟩ => ⟨S8x32, .f32⟩
  | .hbm, ⟨58, _⟩ => ⟨S8x32, .f32⟩
  | .hbm, ⟨59, _⟩ => ⟨S8x32, .f32⟩
  | .hbm, ⟨60, _⟩ => ⟨S8x32, .f32⟩
  | .hbm, ⟨61, _⟩ => ⟨S8x32, .f32⟩
  | .hbm, ⟨62, _⟩ => ⟨S8x32, .f32⟩
  | .hbm, ⟨63, _⟩ => ⟨S8x32, .f32⟩
  | .hbm, ⟨64, _⟩ => ⟨S8x32x1, .f32⟩
  | .hbm, ⟨65, _⟩ => ⟨S8x32x64, .f32⟩
  | .hbm, ⟨66, _⟩ => ⟨S8x32x64, .f32⟩
  | .hbm, ⟨67, _⟩ => ⟨S8x32x1, .f32⟩
  | .hbm, ⟨68, _⟩ => ⟨S_, .f32⟩
  | .hbm, ⟨69, _⟩ => ⟨S8x32x1, .f32⟩
  | .hbm, ⟨70, _⟩ => ⟨S8x32x1, .f32⟩
  | .hbm, ⟨71, _⟩ => ⟨S8x32x1, .f32⟩
  | .hbm, ⟨72, _⟩ => ⟨S8x32x64, .f32⟩
  | .hbm, ⟨73, _⟩ => ⟨S8x32x64, .f32⟩
  | .hbm, ⟨74, _⟩ => ⟨S1x8x32x64, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S4096x8x32x64, .f32⟩
  | .hbm, ⟨79, _⟩ => ⟨S_, .i32⟩
  | .hbm, ⟨80, _⟩ => ⟨S_, .i32⟩
  | .hbm, ⟨81, _⟩ => ⟨S8x4096x32x64, .f32⟩
  | .hbm, ⟨82, _⟩ => ⟨S1x1x32x64, .f32⟩
  | .hbm, ⟨83, _⟩ => ⟨S1x1x32x64, .f32⟩
  | .hbm, ⟨84, _⟩ => ⟨S8x4096x32x64, .f32⟩
  | .hbm, ⟨85, _⟩ => ⟨S8x4096x32x64, .f32⟩
  | .hbm, ⟨86, _⟩ => ⟨S8x4096x32x64, .f32⟩
  | .hbm, ⟨87, _⟩ => ⟨S8x4096x32x64, .f32⟩
  | .hbm, ⟨88, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev main_while0c_c_6 : Ref sig .tc := ⟨.hbm, 20, rfl⟩
abbrev main_while0c_v13 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_c_1 : Ref sig .tc := ⟨.hbm, 24, rfl⟩
abbrev main_while0b_call0_v0 : Ref sig .tc := ⟨.hbm, 25, rfl⟩
abbrev main_while0b_v13 : Ref sig .tc := ⟨.hbm, 26, rfl⟩
abbrev main_while0b_call1_c : Ref sig .tc := ⟨.hbm, 27, rfl⟩
abbrev main_while0b_call1_v0 : Ref sig .tc := ⟨.hbm, 28, rfl⟩
abbrev main_while0b_v14 : Ref sig .tc := ⟨.hbm, 29, rfl⟩
abbrev main_while0b_cst_6 : Ref sig .tc := ⟨.hbm, 30, rfl⟩
abbrev main_while0b_v15 : Ref sig .tc := ⟨.hbm, 31, rfl⟩
abbrev main_while0b_cst_7 : Ref sig .tc := ⟨.hbm, 32, rfl⟩
abbrev main_while0b_v16 : Ref sig .tc := ⟨.hbm, 33, rfl⟩
abbrev main_while0b_v17 : Ref sig .tc := ⟨.hbm, 34, rfl⟩
abbrev main_while0b_v18 : Ref sig .tc := ⟨.hbm, 35, rfl⟩
abbrev main_while0b_v19 : Ref sig .tc := ⟨.hbm, 36, rfl⟩
abbrev main_while0b_v20 : Ref sig .tc := ⟨.hbm, 37, rfl⟩
abbrev main_while0b_v21 : Ref sig .tc := ⟨.hbm, 38, rfl⟩
abbrev main_while0b_c_8 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_v25 : Ref sig .tc := ⟨.hbm, 43, rfl⟩
abbrev main_while0b_v26 : Ref sig .tc := ⟨.hbm, 44, rfl⟩
abbrev main_while0b_v27 : Ref sig .tc := ⟨.hbm, 45, rfl⟩
abbrev main_while0b_v28 : Ref sig .tc := ⟨.hbm, 46, rfl⟩
abbrev main_while0b_v29 : Ref sig .tc := ⟨.hbm, 47, rfl⟩
abbrev main_while0b_v30 : Ref sig .tc := ⟨.hbm, 48, rfl⟩
abbrev main_while0b_v31 : Ref sig .tc := ⟨.hbm, 49, rfl⟩
abbrev main_while0b_c_9 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_v39 : Ref sig .tc := ⟨.hbm, 58, rfl⟩
abbrev main_while0b_v40 : Ref sig .tc := ⟨.hbm, 59, rfl⟩
abbrev main_while0b_v41 : Ref sig .tc := ⟨.hbm, 60, rfl⟩
abbrev main_while0b_v42 : Ref sig .tc := ⟨.hbm, 61, rfl⟩
abbrev main_while0b_v43 : Ref sig .tc := ⟨.hbm, 62, rfl⟩
abbrev main_while0b_v44 : Ref sig .tc := ⟨.hbm, 63, rfl⟩
abbrev main_while0b_v45 : Ref sig .tc := ⟨.hbm, 64, rfl⟩
abbrev main_while0b_v46 : Ref sig .tc := ⟨.hbm, 65, rfl⟩
abbrev main_while0b_v47 : Ref sig .tc := ⟨.hbm, 66, rfl⟩
abbrev main_while0b_v48 : Ref sig .tc := ⟨.hbm, 67, rfl⟩
abbrev main_while0b_cst_10 : Ref sig .tc := ⟨.hbm, 68, rfl⟩
abbrev main_while0b_v49 : Ref sig .tc := ⟨.hbm, 69, rfl⟩
abbrev main_while0b_v50 : Ref sig .tc := ⟨.hbm, 70, rfl⟩
abbrev main_while0b_v51 : Ref sig .tc := ⟨.hbm, 71, rfl⟩
abbrev main_while0b_v52 : Ref sig .tc := ⟨.hbm, 72, rfl⟩
abbrev main_while0b_v53 : Ref sig .tc := ⟨.hbm, 73, rfl⟩
abbrev main_while0b_call2_v0 : Ref sig .tc := ⟨.hbm, 74, rfl⟩
abbrev main_while0b_call2_c : Ref sig .tc := ⟨.hbm, 75, rfl⟩
abbrev main_while0b_call2_c_0 : Ref sig .tc := ⟨.hbm, 76, rfl⟩
abbrev main_while0b_call2_c_1 : Ref sig .tc := ⟨.hbm, 77, rfl⟩
abbrev main_while0b_v54 : Ref sig .tc := ⟨.hbm, 78, rfl⟩
abbrev main_while0b_c_11 : Ref sig .tc := ⟨.hbm, 79, rfl⟩
abbrev main_while0b_v55 : Ref sig .tc := ⟨.hbm, 80, rfl⟩
abbrev main_v5 : Ref sig .tc := ⟨.hbm, 81, rfl⟩
abbrev main_v6 : Ref sig .tc := ⟨.hbm, 82, rfl⟩
abbrev main_v7 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_v11 : Ref sig .tc := ⟨.hbm, 87, rfl⟩
abbrev main_v12 : Ref sig .tc := ⟨.hbm, 88, rfl⟩

abbrev nD : Nat := 1
abbrev τ : Topo := Topo.v7x

variable {F : FTy → Type} [FloatOps F]

abbrev main_while0_count : Scf.Loop 32 := ⟨0#32, 4096#32, 1#32⟩
-- ==== Proof.Stream.lean ====
module
public import Idealize.ShloMosaic.Lib.Pointwise
@[expose] public section
/-!
The statistics of one group along one stream, over the reals: what both programs compute, stated
without either. `f i` is the group mean of row `i`, `p` the variance the stream starts from.
-/
noncomputable section
namespace Cert.Proof
open Idealize.ShloMosaic

/-- The stabiliser both programs add to the variance, as the real number it denotes. -/
def eps : ℝ := 10995116 / 2 ^ 40

/-- The f32 pattern of the stabiliser denotes that real number. -/
theorem ofBits_eps : Ideal.ofBits .f32 0x3727C5AC#32 = ((eps : ℝ) : EReal) := by
  simp [Ideal.ofBits, Ideal.ieee, -EReal.coe_mul, eps]; norm_num

/-- The f32 pattern the kernel multiplies a group's sum by denotes one sixty-fourth. -/
theorem ofBits_sixtyfourth : Ideal.ofBits .f32 0x3C800000#32 = ((1 / 64 : ℝ) : EReal) := by
  simp [Ideal.ofBits, Ideal.ieee, -EReal.coe_mul]; norm_num

/-- The f32 pattern the reference divides a group's sum by denotes sixty-four. -/
theorem ofBits_sixtyfour : Ideal.ofBits .f32 0x42800000#32 = ((64 : ℝ) : EReal) := by
  simp [Ideal.ofBits, Ideal.ieee, -EReal.coe_mul]; norm_num

/-- The f32 pattern of infinity is the top of the extended reals. -/
theorem ofBits_inf : Ideal.ofBits .f32 0x7F800000#32 = (⊤ : EReal) := by
  simp [Ideal.ofBits, Ideal.ieee]

/-- The sum of the first `n` entries. -/
def psum (f : ℕ → ℝ) (n : ℕ) : ℝ := ∑ i ∈ Finset.range n, f i

/-- The sum of the squares of the first `n` entries. -/
def psq (f : ℕ → ℝ) (n : ℕ) : ℝ := psum (fun i => f i * f i) n

/-- The mean of the first `n` entries. -/
def smean (f : ℕ → ℝ) (n : ℕ) : ℝ := psum f n / n

/-- The running variance after `n` entries, from the variance `p` the stream starts with. -/
def svar (f : ℕ → ℝ) (p : EReal) (n : ℕ) : EReal :=
  Ideal.div (((psq f n : ℝ) : EReal) + p) ((n : ℝ) : EReal) - ((smean f n * smean f n : ℝ) : EReal)

/-- The reciprocal standard deviation after `n` entries. -/
def srho (f : ℕ → ℝ) (p : EReal) (n : ℕ) : EReal := Ideal.rsqrt (svar f p n + ((eps : ℝ) : EReal))

/-- One more entry in the sum. -/
theorem psum_succ (f : ℕ → ℝ) (n : ℕ) : psum f (n + 1) = psum f n + f n := Finset.sum_range_succ f n

/-- One more entry in the sum of squares. -/
theorem psq_succ (f : ℕ → ℝ) (n : ℕ) : psq f (n + 1) = psq f n + f n * f n := psum_succ _ n

/-- The empty sum. -/
theorem psum_zero (f : ℕ → ℝ) : psum f 0 = 0 := Finset.sum_range_zero f

/-- A starting variance the stabiliser makes positive is a real number or infinite. -/
theorem start_cases {p : EReal} (hp : 0 < p + ((eps : ℝ) : EReal)) :
    p = ⊤ ∨ ∃ q : ℝ, p = q ∧ 0 < q + eps := by
  induction p with
  | bot => simp at hp
  | top => exact .inl rfl
  | coe q => exact .inr ⟨q, rfl, by exact_mod_cast hp⟩

/-- A stream started from an infinite variance keeps it. -/
theorem svar_top (f : ℕ → ℝ) {n : ℕ} (hn : 0 < n) : svar f ⊤ n = ⊤ := by
  have hn' : (0 : ℝ) < n := by exact_mod_cast hn
  rw [svar, EReal.coe_add_top, Ideal.div_coe hn'.ne', EReal.top_mul_coe_of_pos (by positivity),
    EReal.top_sub_coe]

/-- A stream started from a real variance has a real variance. -/
theorem svar_coe (f : ℕ → ℝ) (q : ℝ) {n : ℕ} (hn : 0 < n) :
    svar f q n = (((psq f n + q) / n - smean f n * smean f n : ℝ) : EReal) := by
  have hn' : (n : ℝ) ≠ 0 := by exact_mod_cast hn.ne'
  rw [svar, Ideal.div_coe hn', ← EReal.coe_add, ← EReal.coe_mul, ← EReal.coe_sub]
  congr 2; ring

/-- After the first entry the variance is the one the stream starts with. -/
theorem svar_one (f : ℕ → ℝ) {p : EReal} (hp : 0 < p + ((eps : ℝ) : EReal)) : svar f p 1 = p := by
  obtain rfl | ⟨q, rfl, -⟩ := start_cases hp
  · exact svar_top f one_pos
  · rw [svar_coe f q one_pos]; congr 1; simp [psq, smean, psum]

/-- After the first entry the mean is that entry. -/
theorem smean_one (f : ℕ → ℝ) : smean f 1 = f 0 := by simp [smean, psum]

/-- One step of the mean, as the reference takes it. -/
theorem smean_succ (f : ℕ → ℝ) {n : ℕ} (hn : 0 < n) :
    smean f (n + 1) = smean f n + (f n - smean f n) / ((n + 1 : ℕ) : ℝ) := by
  have hn' : (n : ℝ) ≠ 0 := by exact_mod_cast hn.ne'
  have h1 : ((n + 1 : ℕ) : ℝ) ≠ 0 := by positivity
  rw [smean, smean, psum_succ]
  push_cast at h1 ⊢
  field_simp; ring

/-- One step of the variance, as the reference takes it. -/
theorem svar_succ (f : ℕ → ℝ) {p : EReal} (hp : 0 < p + ((eps : ℝ) : EReal)) {n : ℕ} (hn : 0 < n) :
    Ideal.div (svar f p n * ((n : ℝ) : EReal)
      + (((f n - smean f n) * (f n - smean f (n + 1)) : ℝ) : EReal)) (((n + 1 : ℕ) : ℝ) : EReal)
      = svar f p (n + 1) := by
  have hn' : (0 : ℝ) < n := by exact_mod_cast hn
  have h1 : (0 : ℝ) < ((n + 1 : ℕ) : ℝ) := by positivity
  obtain rfl | ⟨q, rfl, -⟩ := start_cases hp
  · rw [svar_top f hn, svar_top f n.succ_pos, EReal.top_mul_coe_of_pos hn', EReal.top_add_coe,
      Ideal.div_coe h1.ne', EReal.top_mul_coe_of_pos (by positivity)]
  · rw [svar_coe f q hn, svar_coe f q n.succ_pos, Ideal.div_coe h1.ne', ← EReal.coe_mul,
      ← EReal.coe_add, ← EReal.coe_mul]
    congr 1
    rw [psq_succ, smean, smean, psum_succ]
    push_cast at h1 ⊢
    field_simp; ring

/-- Twice any number times the sum is at most the sum of squares plus the count times its square. -/
theorem two_mul_psum_le (f : ℕ → ℝ) (a : ℝ) (n : ℕ) : 2 * a * psum f n ≤ psq f n + n * (a * a) := by
  induction n with
  | zero => simp [psq, psum]
  | succ n ih =>
    rw [psum_succ, psq_succ]
    push_cast
    nlinarith [mul_self_nonneg (f n - a)]

/-- The square of the mean is at most the mean of the squares. -/
theorem smean_sq_le (f : ℕ → ℝ) {n : ℕ} (hn : 0 < n) : smean f n * smean f n ≤ psq f n / n := by
  have hn' : (0 : ℝ) < n := by exact_mod_cast hn
  rw [le_div_iff₀ hn']
  have h := two_mul_psum_le f (smean f n) n
  have e : psum f n = n * smean f n := by rw [smean]; field_simp
  rw [e] at h
  linarith

/-- The reciprocal standard deviation is a real number. -/
theorem srho_real (f : ℕ → ℝ) {p : EReal} (hp : 0 < p + ((eps : ℝ) : EReal)) {n : ℕ} (hn : 0 < n) :
    ∃ r : ℝ, srho f p n = r := by
  obtain rfl | ⟨q, rfl, hq⟩ := start_cases hp
  · exact ⟨0, by rw [srho, svar_top f hn, EReal.top_add_coe]; rfl⟩
  · have h1 : (1 : ℝ) ≤ n := by exact_mod_cast hn
    have he : (0 : ℝ) < eps := by norm_num [eps]
    have hpos : 0 < (psq f n + q) / n - smean f n * smean f n + eps := by
      have hs := smean_sq_le f hn
      have hq' : 0 < q / n + eps := by
        rw [div_add' _ _ _ (by positivity : (n : ℝ) ≠ 0)]
        exact div_pos (by nlinarith) (by linarith)
      rw [add_div]; linarith
    refine ⟨(Real.sqrt ((psq f n + q) / n - smean f n * smean f n + eps))⁻¹, ?_⟩
    rw [srho, svar_coe f q hn, ← EReal.coe_add, Ideal.rsqrt_coe, if_neg hpos.not_gt, if_neg hpos.ne']

/-- The normalised value of one entry `x` under weight `w` and bias `b`, once `n` entries are counted. -/
def yval (f : ℕ → ℝ) (p : EReal) (n : ℕ) (x w : ℝ) (b : EReal) : EReal :=
  (((x - smean f n) * (srho f p n).toReal * w : ℝ) : EReal) + b

/-! ## Finite sums -/

/-- A finite sum of reals, taken in the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => rfl
  | insert a s ha ih => rw [Finset.sum_insert ha, Finset.sum_insert ha, ih, EReal.coe_add]

/-- A running sum taken in two stretches. -/
theorem psum_add (f : ℕ → ℝ) (n k : ℕ) : psum f (n + k) = psum f n + psum (fun i => f (n + i)) k := by
  induction k with
  | zero => rw [psum_zero, add_zero, add_zero]
  | succ k ih => rw [← add_assoc, psum_succ, psum_succ, ih, add_assoc]

/-- The row of a lower triangular matrix of ones picks a running sum. -/
theorem sum_lower (h : ℕ → ℝ) (r : Fin 256) :
    ∑ x : Fin 256, (if (x : ℕ) ≤ r then (1 : ℝ) else 0) * h x = psum h (r + 1) := by
  rw [Fin.sum_univ_eq_sum_range (fun x => (if x ≤ (r : ℕ) then (1 : ℝ) else 0) * h x) 256, psum]
  simp only [ite_mul, one_mul, zero_mul]
  rw [← Finset.sum_filter]
  congr 1
  ext x
  have := r.isLt
  simp only [Finset.mem_filter, Finset.mem_range]
  omega

/-- A column of the group indicator picks the 64 lanes of that group. -/
theorem sum_group (h : Fin 2048 → ℝ) (g : Fin 32) :
    ∑ x : Fin 2048, h x * (if (x : ℕ) / 64 = g then (1 : ℝ) else 0)
      = ∑ e : Fin 64, h ⟨64 * g + e, by have := g.isLt; have := e.isLt; omega⟩ := by
  rw [Fin.sum_univ_tiles 32 64 rfl, Finset.sum_eq_single g]
  · refine Finset.sum_congr rfl fun e _ => ?_
    have := e.isLt
    rw [if_pos (by show (g.val * 64 + e.val) / 64 = g.val; omega), mul_one]
    congr 2
    omega
  · intro j _ hj
    refine Finset.sum_eq_zero fun e _ => ?_
    have := e.isLt
    rw [if_neg (fun h => hj (Fin.ext (by
      have h' : (j.val * 64 + e.val) / 64 = g.val := h
      omega))), mul_zero]
  · exact fun h => absurd (Finset.mem_univ g) h

/-- A row of the group indicator picks the group its lane is in. -/
theorem sum_pick (a : Fin 32 → ℝ) (d : Fin 2048) (w : ℝ) :
    ∑ x : Fin 32, a x * (if (d : ℕ) / 64 = x then w else 0)
      = a ⟨d / 64, by have := d.isLt; omega⟩ * w := by
  have hd := d.isLt
  rw [Finset.sum_eq_single ⟨(d : ℕ) / 64, by omega⟩]
  · rw [if_pos rfl]
  · intro x _ hx
    rw [if_neg (fun h => hx (Fin.ext h.symm)), mul_zero]
  · exact fun h => absurd (Finset.mem_univ _) h

/-- The 32-bit count of a row, read as a number. -/
theorem toInt_ofNat_lt {n : ℕ} (h : n < 2 ^ 31) : (BitVec.ofNat 32 n).toInt = (n : ℤ) := by
  rw [BitVec.toInt_eq_toNat_of_lt] <;> rw [BitVec.toNat_ofNat] <;> omega

end Cert.Proof
-- ==== Proof.Block.lean ====
module
public import proofs.«01_k».proof.Defs
public import proofs.«01_k».proof.Proof.Gen.KernelIdeal.Frame
public import proofs.«01_k».proof.Proof.Stream
public import Idealize.ShloMosaic.Lib.Pipeline.ValueKit
public import Idealize.ShloMosaic.Lib.Pointwise
@[expose] public section
/-!
The kernel works on 256 rows at a time, four times per grid point. The functions here say once what
one such block computes; the kernel's four unrolled copies are instances of them.
-/
set_option maxRecDepth 16384
noncomputable section
namespace Cert.Proof.Block
open Idealize.ShloMosaic Cert.KernelIdeal Cert.KernelIdeal.Gen

/-- The bf16 rounding of a value. -/
abbrev hi {s : Shape} (v : FVec Ideal s .f32) : FVec Ideal s .bf16 := truncf .bf16 v bitsLt_bf16_f32
/-- What the bf16 rounding leaves over, itself rounded. -/
abbrev lo {s : Shape} (v : FVec Ideal s .f32) : FVec Ideal s .bf16 :=
  truncf .bf16 (subf v (extf .f32 (hi v) bitsLt_bf16_f32)) bitsLt_bf16_f32

/-- The mean of each of the 32 groups in each of the 256 rows. -/
def means (X : FVec Ideal S1x256x2048 .f32) (A : FVec Ideal S2048x32 .bf16) : FVec Ideal S256x32 .f32 :=
  mulf (matmul dot_S256x2048_S2048x32_S256x32_1_0_0_1_n_n none
      (hi (shapeCast S256x2048 X shapeCasts_S1x256x2048_S256x2048))
      (shapeCast S2048x32 A shapeCasts_S2048x32_S2048x32) (constant S256x32 .f32 0x00000000#32))
    (broadcast S256x32 (Scalar.ofBits .f32 0x3C800000#32))

/-- The running sums down the 256 rows, on top of the carried row `s`. -/
def sums (T : FVec Ideal S256x512 .bf16) (M : FVec Ideal S256x32 .f32) (s : FVec Ideal S1x32 .f32) :
    FVec Ideal S256x32 .f32 :=
  addf (matmul dot_S256x512_S512x32_S256x32_1_0_0_1_n_n none
      (shapeCast S256x512 T shapeCasts_S256x512_S256x512)
      (concatenate S512x32 0 [⟨S256x32, hi M⟩, ⟨S256x32, lo M⟩] concatenates_S256x32_S256x32_S512x32_d0)
      (constant S256x32 .f32 0x00000000#32))
    (broadcastTo S256x32 s broadcasts_S1x32_S256x32)

/-- The last of 256 rows. -/
def final (C : FVec Ideal S256x32 .f32) : FVec Ideal S1x32 .f32 :=
  extractStridedSlice S1x32 ![255, 0] C slices_S256x32_o255_0_S1x32

/-- The number of rows seen at each row, `o` being the number before the block plus one. -/
def rows (o : BitVec 32) : FVec Ideal S256x32 .f32 :=
  broadcastTo S256x32
    (sitofp .f32 (addi (iota .tc S256x1 32 [0] iota_S256x1_d0_w32) (broadcast S256x1 o)) : FVec Ideal S256x1 .f32)
    broadcasts_S256x1_S256x32

/-- The running mean at each row. -/
def rmean (C : FVec Ideal S256x32 .f32) (o : BitVec 32) : FVec Ideal S256x32 .f32 := divf C (rows o)

/-- The running variance at each row. -/
def rvar (C D : FVec Ideal S256x32 .f32) (o : BitVec 32) : FVec Ideal S256x32 .f32 :=
  subf (divf D (rows o)) (mulf (rmean C o) (rmean C o))

/-- The reciprocal standard deviation at each row. -/
def rrho (C D : FVec Ideal S256x32 .f32) (o : BitVec 32) : FVec Ideal S256x32 .f32 :=
  rsqrt (addf (rvar C D o) (broadcast S256x32 (Scalar.ofBits .f32 0x3727C5AC#32)))

/-- The normalised rows: the input times the spread scale, plus the spread shift. -/
def norm (X : FVec Ideal S1x256x2048 .f32) (N R : FVec Ideal S256x32 .f32) (W : FVec Ideal S64x2048 .bf16)
    (B : FVec Ideal S65x2048 .bf16) : FVec Ideal S1x256x2048 .f32 :=
  shapeCast S1x256x2048
    (addf
      (mulf (shapeCast S256x2048 X shapeCasts_S1x256x2048_S256x2048)
        (matmul dot_S256x64_S64x2048_S256x2048_1_0_0_1_n_n none
          (concatenate S256x64 1 [⟨S256x32, hi R⟩, ⟨S256x32, lo R⟩] concatenates_S256x32_S256x32_S256x64_d1)
          (shapeCast S64x2048 W shapeCasts_S64x2048_S64x2048) (constant S256x2048 .f32 0x00000000#32)))
      (matmul dot_S256x65_S65x2048_S256x2048_1_0_0_1_n_n none
        (concatenate S256x65 1 [⟨S256x32, hi (mulf N R)⟩, ⟨S256x32, lo (mulf N R)⟩,
          ⟨S256x1, (broadcast S256x1 (Scalar.ofBits .bf16 0x3F80#16) : FVec Ideal S256x1 .bf16)⟩]
          concatenates_S256x32_S256x32_S256x1_S256x65_d1)
        (shapeCast S65x2048 B shapeCasts_S65x2048_S65x2048) (constant S256x2048 .f32 0x00000000#32)))
    shapeCasts_S256x2048_S1x256x2048

/-- The number of rows before sub-block `q` of chunk `l`, plus one, as the kernel forms it. -/
abbrev base (l q : BitVec 32) : BitVec 32 := Scalar.addi (Scalar.addi (Scalar.muli l 1024#32) q) 1#32

section Copies
variable (s u : FVec Ideal S1x32 .f32) (T : FVec Ideal S256x512 .bf16) (X : FVec Ideal S1x256x2048 .f32)
  (A : FVec Ideal S2048x32 .bf16) (W : FVec Ideal S64x2048 .bf16) (B : FVec Ideal S65x2048 .bf16) (l q : BitVec 32)

/-- The carried sums after the first sub-block. -/
theorem carry0 : k0_pay11 s T X A = final (sums T (means X A) s) := rfl
/-- The carried sums of squares after the first sub-block. -/
theorem carrySq0 : k0_pay12 s T X A = final (sums T (mulf (means X A) (means X A)) s) := rfl
/-- The carried sums after the second sub-block. -/
theorem carry1 : k0_pay19 (k0_pay6 T) s (k0_pay15 X A) = final (sums T (means X A) s) := rfl
/-- The carried sums of squares after the second sub-block. -/
theorem carrySq1 : k0_pay20 (k0_pay6 T) s (k0_pay15 X A) = final (sums T (mulf (means X A) (means X A)) s) := rfl
/-- The carried sums after the third sub-block. -/
theorem carry2 : k0_pay33 (k0_pay6 T) s X A = final (sums T (means X A) s) := rfl
/-- The carried sums of squares after the third sub-block. -/
theorem carrySq2 : k0_pay34 (k0_pay6 T) s X A = final (sums T (mulf (means X A) (means X A)) s) := rfl
/-- The carried sums after the fourth sub-block. -/
theorem carry3 : k0_pay41 (k0_pay6 T) s (k0_pay37 X A) = final (sums T (means X A) s) := rfl
/-- The carried sums of squares after the fourth sub-block. -/
theorem carrySq3 : k0_pay42 (k0_pay6 T) s (k0_pay37 X A) = final (sums T (mulf (means X A) (means X A)) s) := rfl

/-- The normalised rows of a block, from the carried rows. -/
def out : FVec Ideal S1x256x2048 .f32 :=
  norm X (rmean (sums T (means X A) s) (base l q))
    (rrho (sums T (means X A) s) (sums T (mulf (means X A) (means X A)) u) (base l q)) W B

/-- The rows the first sub-block stores. -/
theorem out0 : k0_pay13 (k0_pay7 X) (k0_pay9 s T X A) (k0_pay10 u T X A)
    (iota .tc S256x1 32 [0] iota_S256x1_d0_w32) (Scalar.addi (Scalar.muli l 1024#32) 0#32) 1#32 W B
    = out s u T X A W B l 0#32 := rfl
/-- The rows the second sub-block stores. -/
theorem out1 : k0_pay28 (k0_pay14 X) (k0_pay24 l (k0_pay6 T) s u (k0_pay15 X A) W)
    (k0_pay26 l (k0_pay6 T) s u (k0_pay15 X A)) (k0_pay27 l (k0_pay6 T) s u (k0_pay15 X A)) B
    = out s u T X A W B l 256#32 := rfl
/-- The rows the third sub-block stores. -/
theorem out2 : k0_pay35 (k0_pay29 X) (k0_pay31 (k0_pay6 T) s X A) (k0_pay32 (k0_pay6 T) u X A)
    (iota .tc S256x1 32 [0] iota_S256x1_d0_w32) (Scalar.addi (Scalar.muli l 1024#32) 512#32) 1#32 W B
    = out s u T X A W B l 512#32 := rfl
/-- The rows the fourth sub-block stores. -/
theorem out3 : k0_pay1 (k0_pay36 X) (k0_pay44 l (k0_pay6 T) s (k0_pay37 X A))
    (k0_pay46 l (k0_pay6 T) s u (k0_pay37 X A)) W B
    = out s u T X A W B l 768#32 := rfl
/-- The mean the fourth sub-block stores. -/
theorem outMean : k0_pay47 l (k0_pay6 T) s (k0_pay37 X A)
    = shapeCast S1x1x32 (final (rmean (sums T (means X A) s) (base l 768#32))) shapeCasts_S1x32_S1x1x32 := rfl
/-- The variance the fourth sub-block stores. -/
theorem outVar : k0_pay48 l (k0_pay6 T) s u (k0_pay37 X A)
    = shapeCast S1x1x32 (final (rvar (sums T (means X A) s) (sums T (mulf (means X A) (means X A)) u)
      (base l 768#32))) shapeCasts_S1x32_S1x1x32 := rfl
end Copies

end Cert.Proof.Block
-- ==== Proof.BlockValue.lean ====
module
public import proofs.«01_k».proof.Proof.Block
@[expose] public section
/-!
What one block of 256 rows computes, as numbers: the running statistics of `Stream`, when the
carried rows hold the statistics of the rows before it.
-/
set_option maxRecDepth 16384
noncomputable section
namespace Cert.Proof.Block
open Idealize.ShloMosaic Cert.KernelIdeal Cert.KernelIdeal.Gen

/-- The carried row holds, for each group, the sum of the first `n` entries on top of `p`. -/
def Carried (f : ℕ → Fin 32 → ℝ) (p : Fin 32 → EReal) (n : ℕ) (s : FVec Ideal S1x32 .f32) : Prop :=
  ∀ g : Fin 32, s (ix2 0 g) = ((psum (f · g) n : ℝ) : EReal) + p g

/-- Row `r` of the block holds, for each group, the sum up to and including entry `n + r`, on top of `p`. -/
def Running (f : ℕ → Fin 32 → ℝ) (p : Fin 32 → EReal) (n : ℕ) (C : FVec Ideal S256x32 .f32) : Prop :=
  ∀ (r : Fin 256) (g : Fin 32), C (ix2 r g) = ((psum (f · g) (n + r + 1) : ℝ) : EReal) + p g

/-- The operand that spreads lanes over groups: the group indicator. -/
def IsGroup (A : FVec Ideal S2048x32 .bf16) : Prop :=
  ∀ (k : Fin 2048) (g : Fin 32), A (ix2 k g) = (((if (k : ℕ) / 64 = g then 1 else 0 : ℝ)) : EReal)

/-- The operand that sums down the rows: a lower triangle of ones, twice side by side. -/
def IsLower (T : FVec Ideal S256x512 .bf16) : Prop :=
  ∀ (r : Fin 256) (k : Fin 512), T (ix2 r k) = (((if (k : ℕ) % 256 ≤ r then 1 else 0 : ℝ)) : EReal)

/-- The operand that spreads the scale over lanes: the weighted indicator, twice on top of itself. -/
def IsSpread (w : Fin 2048 → ℝ) (W : FVec Ideal S64x2048 .bf16) : Prop :=
  ∀ (k : Fin 64) (d : Fin 2048), W (ix2 k d) = (((if (d : ℕ) / 64 = (k : ℕ) % 32 then w d else 0 : ℝ)) : EReal)

/-- The operand that spreads the shift over lanes: the negated weighted indicator twice, then the bias. -/
def IsShift (w : Fin 2048 → ℝ) (b : Fin 2048 → EReal) (B : FVec Ideal S65x2048 .bf16) : Prop :=
  (∀ (k : Fin 65) (d : Fin 2048), (k : ℕ) < 64 →
    B (ix2 k d) = (((if (d : ℕ) / 64 = (k : ℕ) % 32 then -w d else 0 : ℝ)) : EReal))
  ∧ ∀ d : Fin 2048, B (ix2 64 d) = b d

/-- The group means of a block of real rows. -/
theorem means_apply {X : FVec Ideal S1x256x2048 .f32} {A : FVec Ideal S2048x32 .bf16} (hA : IsGroup A)
    {x : Fin 256 → Fin 2048 → ℝ} (hX : ∀ r k, X (ix3 0 r k) = x r k) (r : Fin 256) (g : Fin 32) :
    means X A (ix2 r g)
      = (((∑ e : Fin 64, x r ⟨64 * g + e, by have := g.isLt; have := e.isLt; omega⟩) / 64 : ℝ) : EReal) := by
  pointwise [means]
  simp only [hX, fun k => hA k g, ← EReal.coe_mul, coe_sum, sum_group, ofBits_sixtyfourth]
  rw [mul_one_div]

/-- The running sums of a block of real rows. -/
theorem running_sums {T : FVec Ideal S256x512 .bf16} (hT : IsLower T) {M : FVec Ideal S256x32 .f32}
    {s : FVec Ideal S1x32 .f32} {f : ℕ → Fin 32 → ℝ} {p : Fin 32 → EReal} {n : ℕ}
    (hM : ∀ (r : Fin 256) g, M (ix2 r g) = f (n + r) g) (hs : Carried f p n s) : Running f p n (sums T M s) := by
  intro r g
  pointwise [sums]
  simp only [hM, hT _ _, hs g, ← EReal.coe_sub, sub_self, ← EReal.coe_mul, mul_zero, coe_sum, Finset.sum_const_zero]
  rw [EReal.coe_zero, add_zero, ← add_assoc, ← EReal.coe_add, add_assoc n, psum_add, add_comm (psum _ n),
    ← sum_lower]
  simp only [Nat.mod_eq_of_lt (Fin.isLt _)]

/-- The last row of a block is what the next one starts from. -/
theorem carried_final {f : ℕ → Fin 32 → ℝ} {p : Fin 32 → EReal} {n : ℕ} {C : FVec Ideal S256x32 .f32}
    (hC : Running f p n C) : Carried f p (n + 256) (final C) := by
  intro g
  pointwise [final]
  exact hC 255 g

/-- The number of rows seen, at each row of a block that starts at row `n`. -/
theorem rows_apply {n : ℕ} (hn : n ≤ 4096) (r : Fin 256) (g : Fin 32) :
    rows (BitVec.ofNat 32 (n + 1)) (ix2 r g) = (((n + r + 1 : ℕ) : ℝ) : EReal) := by
  have hr := r.isLt
  pointwise [rows]
  rw [show IntOp.addi (BitVec.ofNat 32 ↑r) (BitVec.ofNat 32 (n + 1)) = BitVec.ofNat 32 (n + r + 1) by
    rw [IntOp.addi, ← BitVec.ofNat_add]; congr 1; omega]
  show (((BitVec.ofNat 32 (n + r + 1)).toInt : ℝ) : EReal) = _
  rw [toInt_ofNat_lt (by omega)]
  rfl

section Stats
variable {f : ℕ → Fin 32 → ℝ} {p : Fin 32 → EReal} {n : ℕ} {C D : FVec Ideal S256x32 .f32}
  (hC : Running f 0 n C) (hD : Running (fun i g => f i g * f i g) p n D) (hn : n ≤ 4096)
include hC hn

/-- The running mean at each row. -/
theorem rmean_apply (r : Fin 256) (g : Fin 32) :
    rmean C (BitVec.ofNat 32 (n + 1)) (ix2 r g) = ((smean (f · g) (n + r + 1) : ℝ) : EReal) := by
  have h0 : ((n + r + 1 : ℕ) : ℝ) ≠ 0 := by positivity
  rw [rmean]
  pointwise
  rw [rows_apply hn, hC r g, Pi.zero_apply, add_zero, Ideal.div_coe h0, ← EReal.coe_mul, mul_one_div, smean]

include hD

/-- The running variance at each row. -/
theorem rvar_apply (r : Fin 256) (g : Fin 32) :
    rvar C D (BitVec.ofNat 32 (n + 1)) (ix2 r g) = svar (f · g) (p g) (n + r + 1) := by
  rw [rvar]
  pointwise
  rw [rmean_apply hC hn, rows_apply hn, hD r g, ← EReal.coe_mul]
  rfl

/-- The reciprocal standard deviation at each row. -/
theorem rrho_apply (r : Fin 256) (g : Fin 32) :
    rrho C D (BitVec.ofNat 32 (n + 1)) (ix2 r g) = srho (f · g) (p g) (n + r + 1) := by
  rw [rrho]
  pointwise
  rw [rvar_apply hC hD hn, ofBits_eps]
  rfl
end Stats

/-- The normalised rows, from real means and reciprocal standard deviations. -/
theorem norm_apply {X : FVec Ideal S1x256x2048 .f32} {N R : FVec Ideal S256x32 .f32} {W : FVec Ideal S64x2048 .bf16}
    {B : FVec Ideal S65x2048 .bf16} {w : Fin 2048 → ℝ} {b : Fin 2048 → EReal} (hW : IsSpread w W) (hB : IsShift w b B)
    {x : Fin 256 → Fin 2048 → ℝ} (hX : ∀ r k, X (ix3 0 r k) = x r k) {μ ρ : Fin 256 → Fin 32 → ℝ}
    (hN : ∀ r g, N (ix2 r g) = μ r g) (hR : ∀ r g, R (ix2 r g) = ρ r g) (r : Fin 256) (d : Fin 2048) :
    norm X N R W B (ix3 0 r d)
      = (((x r d - μ r ⟨d / 64, by have := d.isLt; omega⟩) * ρ r ⟨d / 64, by have := d.isLt; omega⟩ * w d : ℝ) : EReal)
        + b d := by
  have hB0 (x : Fin 32) (h : (x : ℕ) < 65) :
      B (ix2 ⟨x, h⟩ d) = (((if (d : ℕ) / 64 = x then -w d else 0 : ℝ)) : EReal) := by
    have := x.isLt
    rw [hB.1 ⟨x, h⟩ d (by show (x : ℕ) < 64; omega), show ((⟨x, h⟩ : Fin 65) : ℕ) % 32 = x from Nat.mod_eq_of_lt x.isLt]
  have hB1 (h : 64 < 65) : B (ix2 ⟨64, h⟩ d) = b d := hB.2 d
  pointwise [norm]
  rw [Fin.sum_univ_two_halves 64 1 rfl, Fin.sum_univ_two_halves 32 32 rfl]
  simp (disch := omega) only [hX, hN, hR, fun k => hW k d, hB0, hB1, dif_pos, dif_neg, ← EReal.coe_sub, sub_self,
    ← EReal.coe_mul, coe_sum, Nat.mod_eq_of_lt (Fin.isLt _), sum_pick, EReal.coe_zero, zero_mul,
    Finset.sum_const_zero, Finset.univ_unique, Finset.sum_singleton, Fin.default_eq_zero, Fin.val_zero, add_zero,
    one_mul]
  rw [← add_assoc, ← EReal.coe_add]
  congr 2
  ring

/-- The rows one sub-block stores, when the carried rows hold the statistics of the `n` rows before it. -/
theorem out_apply {s u : FVec Ideal S1x32 .f32} {T : FVec Ideal S256x512 .bf16} {X : FVec Ideal S1x256x2048 .f32}
    {A : FVec Ideal S2048x32 .bf16} {W : FVec Ideal S64x2048 .bf16} {B : FVec Ideal S65x2048 .bf16} {l q : BitVec 32}
    {w : Fin 2048 → ℝ} {b : Fin 2048 → EReal} (hA : IsGroup A) (hT : IsLower T) (hW : IsSpread w W) (hB : IsShift w b B)
    {f : ℕ → Fin 32 → ℝ} {p : Fin 32 → EReal} (hp : ∀ g, 0 < p g + ((eps : ℝ) : EReal))
    {n : ℕ} (hn : n ≤ 4096) (hq : base l q = BitVec.ofNat 32 (n + 1))
    {x : Fin 256 → Fin 2048 → ℝ} (hX : ∀ r k, X (ix3 0 r k) = x r k)
    (hx : ∀ (r : Fin 256) (g : Fin 32),
      f (n + r) g = (∑ e : Fin 64, x r ⟨64 * g + e, by have := g.isLt; have := e.isLt; omega⟩) / 64)
    (hs : Carried f 0 n s) (hu : Carried (fun i g => f i g * f i g) p n u) (r : Fin 256) (d : Fin 2048) :
    out s u T X A W B l q (ix3 0 r d)
      = yval (f · ⟨d / 64, by have := d.isLt; omega⟩) (p ⟨d / 64, by have := d.isLt; omega⟩) (n + r + 1) (x r d) (w d) (b d) := by
  have hM : ∀ (r : Fin 256) g, means X A (ix2 r g) = f (n + r) g := fun r g => by rw [means_apply hA hX, hx]
  have hC := running_sums hT hM hs
  have hD := running_sums (M := mulf (means X A) (means X A)) hT (fun r g => by
    pointwise
    rw [hM, ← EReal.coe_mul]) hu
  rw [out, hq, norm_apply hW hB hX (rmean_apply hC hn) (ρ := fun r g => (srho (f · g) (p g) (n + r + 1)).toReal) _ r d]
  · rfl
  · intro r g
    obtain ⟨ρ, hρ⟩ := srho_real (f · g) (hp g) (n := n + r + 1) (by omega)
    rw [rrho_apply hC hD hn, hρ, EReal.toReal_coe]

end Cert.Proof.Block
-- ==== Proof.Operands.lean ====
module
public import proofs.«01_k».proof.Proof.BlockValue
public import Idealize.ShloMosaic.Lib.StableHlo.RunRead
public import Idealize.ShloMosaic.Lib.WordCmp
@[expose] public section
/-!
The arrays the host prepares for the kernel: the group indicator, the lower triangle, the spread of
the weight, the shift. Each is read at an index as a number.
-/
set_option maxRecDepth 16384
noncomputable section
namespace Cert.Proof.Operands
open Idealize.ShloMosaic Idealize.ShloMosaic.TcCoe Idealize.SL.Sem Cert.KernelIdeal Cert.KernelIdeal.Gen Cert.Proof.Block
variable (m : (ℓ : Loc nD τ sig) → Buf (Elt Ideal) ℓ) (c : Dev nD)

/-- The kernel's input, as a float array. -/
abbrev argX : FVec Ideal S8x4096x2048 .f32 := m (c.tc.loc main_arg0)
/-- The starting variance. -/
abbrev argVar : FVec Ideal S8x32 .f32 := m (c.tc.loc main_arg4)
/-- The weight. -/
abbrev argW : FVec Ideal S2048 .f32 := m (c.tc.loc main_arg5)
/-- The bias. -/
abbrev argB : FVec Ideal S2048 .f32 := m (c.tc.loc main_arg6)
/-- The starting variance as the kernel takes it. -/
abbrev var3 : FVec Ideal S8x1x32 .f32 := V m c main_v0

/-- The lane numbers, as a column. -/
def lanes : IVec S2048x1 32 := broadcastInDim S2048x1 ![0] bcast_S2048_S2048x1_0 (iotaInDim S2048 32 0)

/-- A number in every row of the column. -/
abbrev col (x : IVec S_ 32) : IVec S2048x1 32 := broadcastInDim S2048x1 ![] bcast_S_S2048x1 x

/-- The lane numbers divided by 64, rounded down, as the host computes it. -/
def groups : IVec S2048x1 32 :=
  select
    (andi (cmpi .ne (signi lanes) (col (signi (constantI S_ 32 64#32))))
      (cmpi .ne (Host.remsi lanes (col (constantI S_ 32 64#32))) (col (constantI S_ 32 0#32))))
    (subi (Host.divsi lanes (col (constantI S_ 32 64#32))) (col (constantI S_ 32 1#32)))
    (Host.divsi lanes (col (constantI S_ 32 64#32)))

/-- The host's column of group numbers. -/
theorem V_v4 : V m c main_v4 = groups := by
  unfold V
  simp only [V0, List.flatten_cons, List.flatten_nil, List.append_nil]
  after_reads_simp
  rfl

/-- Lane `k` is in group `k / 64`. -/
theorem groups_apply (k : Fin 2048) : groups (ix2 k 0) = BitVec.ofNat 32 (k / 64) := by
  pointwise [groups, lanes]
  revert k
  decide +kernel

/-- A truth value converted to a float is one or zero. -/
theorem truth {φ : FTy} (p : Prop) [Decidable p] :
    FloatOps.uitofp (F := Ideal) φ (BitVec.ofBool (decide p)) = ((if p then 1 else 0 : ℝ) : EReal) := by
  show ((((BitVec.ofBool (decide p)).toNat : ℕ) : ℝ) : EReal) = _
  by_cases h : p <;> simp [h]

/-- The host's group indicator. -/
def ind : FVec Ideal S2048x32 .f32 :=
  uitofp .f32 (cmpi .eq (broadcastInDim S2048x32 ![0, 1] bcast_S2048x1_S2048x32_0_1 groups)
    (broadcastInDim S2048x32 ![0, 1] bcast_S1x32_S2048x32_0_1 (broadcastInDim S1x32 ![1] bcast_S32_S1x32_1 (iotaInDim S32 32 0))))

/-- The group indicator, read at an index. -/
theorem ind_apply (k : Fin 2048) (g : Fin 32) :
    ind (ix2 k g) = (((if (k : ℕ) / 64 = g then 1 else 0 : ℝ)) : EReal) := by
  have hk := k.isLt
  have hg := g.isLt
  have e : ind (ix2 k g) = FloatOps.uitofp (F := Ideal) .f32 (IntOp.cmpi .eq (groups (ix2 k 0)) (BitVec.ofNat 32 g)) := by
    pointwise [ind]
  rw [e, groups_apply, WordCmp.cmpi_eq_ofNat (by omega) (by omega), truth]

/-- The host's group indicator in the narrow format, as the kernel takes it. -/
theorem V_v10 : V m c main_v10 = (truncf .bf16 ind bitsLt_bf16_f32 : FVec Ideal S2048x32 .bf16) := by
  unfold V
  simp only [V0, List.flatten_cons, List.flatten_nil, List.append_nil]
  after_reads_simp
  rfl

/-- The weight spread over the groups, from the weight vector. -/
def spread (w : FVec Ideal S2048 .f32) : FVec Ideal S32x2048 .bf16 :=
  truncf .bf16 (mulf (transpose S32x2048 [1, 0] ind transposes_S2048x32_S32x2048_1_0)
    (broadcastInDim S32x2048 ![0, 1] bcast_S1x2048_S32x2048_0_1 (broadcastInDim S1x2048 ![1] bcast_S2048_S1x2048_1 w))) bitsLt_bf16_f32

/-- The spread weight, read at an index. -/
theorem spread_apply (w : FVec Ideal S2048 .f32) (v : Fin 2048 → ℝ) (hv : ∀ d, w (ix1 d) = v d) (g : Fin 32) (d : Fin 2048) :
    spread w (ix2 g d) = (((if (d : ℕ) / 64 = g then v d else 0 : ℝ)) : EReal) := by
  have e : spread w (ix2 g d) = FloatOps.mulf (F := Ideal) (ind (ix2 d g)) (w (ix1 d)) := by
    pointwise [spread]
  rw [e, ind_apply, hv]
  show (_ : EReal) * _ = _
  rw [← EReal.coe_mul]
  split <;> simp

/-- The host's spread operand. -/
theorem V_v16 : V m c main_v16 = concatenate S64x2048 0
    [⟨S32x2048, spread (argW m c)⟩, ⟨S32x2048, spread (argW m c)⟩]
    concatenates_S32x2048_S32x2048_S64x2048_d0 := by
  unfold V
  simp only [V0, List.flatten_cons, List.flatten_nil, List.append_nil]
  after_reads_simp
  rfl

/-- The host's shift operand. -/
theorem V_v21 : V m c main_v21 = concatenate S65x2048 0
    [⟨S32x2048, Host.negf (spread (argW m c))⟩, ⟨S32x2048, Host.negf (spread (argW m c))⟩,
      ⟨S1x2048, (truncf .bf16 (shapeCast S1x2048 (argB m c) shapeCasts_S2048_S1x2048) bitsLt_bf16_f32 : FVec Ideal S1x2048 .bf16)⟩]
    concatenates_S32x2048_S32x2048_S1x2048_S65x2048_d0 := by
  unfold V
  simp only [V0, List.flatten_cons, List.flatten_nil, List.append_nil]
  after_reads_simp
  rfl

/-- The lower triangle, twice side by side. -/
theorem v29_apply (r : Fin 256) (k : Fin 512) :
    (V m c main_v29 : FVec Ideal S256x512 .bf16) (ix2 r k) = (((if (k : ℕ) % 256 ≤ r then 1 else 0 : ℝ)) : EReal) := by
  have hr := r.isLt
  have hk := k.isLt
  unfold V
  simp only [V0, List.flatten_cons, List.flatten_nil, List.append_nil]
  after_reads_simp
  pointwise
  by_cases h : (k : ℕ) < 256
  · rw [dif_pos h, WordCmp.cmpi_sge_ofNat (by omega) (by omega), truth, Nat.mod_eq_of_lt h]
  · rw [dif_neg h, WordCmp.cmpi_sge_ofNat (by omega) (by omega), truth, show (k : ℕ) % 256 = k - 256 by omega]

/-- The group indicator is one. -/
theorem isGroup : IsGroup (V m c main_v10) := by
  rw [V_v10]
  exact fun k g => ind_apply k g

/-- The lower triangle is one. -/
theorem isLower : IsLower (V m c main_v29) := v29_apply m c

/-- The last row of the shift operand is the bias. -/
theorem shift_bias (u : FVec Ideal S32x2048 .bf16) (b : FVec Ideal S2048 .f32) (d : Fin 2048) (k : Fin 65) (h : ¬ (k : ℕ) < 64) :
    concatenate S65x2048 0 [⟨S32x2048, u⟩, ⟨S32x2048, u⟩,
        ⟨S1x2048, (truncf .bf16 (shapeCast S1x2048 b shapeCasts_S2048_S1x2048) bitsLt_bf16_f32 : FVec Ideal S1x2048 .bf16)⟩]
      concatenates_S32x2048_S32x2048_S1x2048_S65x2048_d0 (ix2 k d) = b (ix1 d) := by
  have hk := k.isLt
  have h1 : ¬ (k : ℕ) < 32 := by omega
  have h2 : ¬ (k : ℕ) - 32 < 32 := by omega
  pointwise [h1, h2]

section Weights
variable {w : Fin 2048 → ℝ} (hw : ∀ d, argW m c (ix1 d) = w d)
include hw

/-- The spread operand spreads the weight. -/
theorem isSpread : IsSpread w (V m c main_v16) := by
  rw [V_v16]
  intro k d
  have hk := k.isLt
  pointwise
  by_cases h : (k : ℕ) < 32
  · simp only [dif_pos h, spread_apply _ w hw, Nat.mod_eq_of_lt h]
  · simp only [dif_neg h, spread_apply _ w hw, show (k : ℕ) % 32 = k - 32 by omega]

/-- The shift operand spreads the negated weight and ends with the bias. -/
theorem isShift : IsShift w (fun d => argB m c (ix1 d)) (V m c main_v21) := by
  rw [V_v21]
  constructor
  · intro k d h'
    have hk := k.isLt
    pointwise
    by_cases h : (k : ℕ) < 32
    · simp only [dif_pos h, spread_apply _ w hw, Nat.mod_eq_of_lt h, ← EReal.coe_neg]
      split <;> simp
    · simp only [dif_neg h, dif_pos (show (k : ℕ) - 32 < 32 by omega), spread_apply _ w hw,
        show (k : ℕ) % 32 = k - 32 by omega, ← EReal.coe_neg]
      split <;> simp
  · exact fun d => shift_bias _ _ d 64 (by decide)
end Weights

/-- The starting variance, with a unit axis. -/
theorem v0_apply (b : Fin 8) (g : Fin 32) :
    var3 m c (ix3 b 0 g) = argVar m c (ix2 b g) := by
  unfold var3 V
  simp only [V0, List.flatten_cons, List.flatten_nil, List.append_nil]
  after_reads_simp
  pointwise

end Cert.Proof.Operands
-- ==== Proof.Target.lean ====
module
public import proofs.«01_k».proof.Proof.BlockValue
@[expose] public section
/-!
What the layer's four results are, as functions of its arguments: the running statistics of the group
means along each stream, and the rows normalised by them.
-/
set_option maxRecDepth 16384
noncomputable section
namespace Cert.Proof
open Idealize.ShloMosaic Cert.KernelIdeal

/-- Every entry is a real number. -/
def AllReal {s : Shape} (X : FVec Ideal s .f32) : Prop := ∀ i, X i = ((EReal.toReal (X i) : ℝ) : EReal)

/-- Row `i` of stream `b`, as real numbers. -/
def xrow (X : FVec Ideal S8x4096x2048 .f32) (b : Fin 8) (i : ℕ) (k : Fin 2048) : ℝ :=
  if h : i < 4096 then EReal.toReal (X (ix3 b ⟨i, h⟩ k)) else 0

/-- The group means of rows of real numbers. -/
def groupMeans (x : ℕ → Fin 2048 → ℝ) (i : ℕ) (g : Fin 32) : ℝ :=
  (∑ e : Fin 64, x i ⟨64 * g + e, by have := g.isLt; have := e.isLt; omega⟩) / 64

/-- The mean of group `g` in row `i` of stream `b`. -/
abbrev gmean (X : FVec Ideal S8x4096x2048 .f32) (b : Fin 8) : ℕ → Fin 32 → ℝ := groupMeans (xrow X b)

/-- The rows the layer returns. -/
def targetY (X : FVec Ideal S8x4096x2048 .f32) (P : FVec Ideal S8x32 .f32) (W B : FVec Ideal S2048 .f32) :
    FVec Ideal S8x4096x2048 .f32 := fun j =>
  yval (gmean X (j 0) · ⟨(j 2 : ℕ) / 64, by have h : (j 2 : ℕ) < 2048 := (j 2).isLt; omega⟩)
    (P (ix2 (j 0 : Fin 8) ⟨(j 2 : ℕ) / 64, by have h : (j 2 : ℕ) < 2048 := (j 2).isLt; omega⟩)) ((j 1 : ℕ) + 1)
    (xrow X (j 0) (j 1) (j 2)) (EReal.toReal (W (ix1 (j 2 : Fin 2048)))) (B (ix1 (j 2 : Fin 2048)))

/-- The means the layer returns. -/
def targetMean (X : FVec Ideal S8x4096x2048 .f32) : FVec Ideal S8x32 .f32 := fun j =>
  ((smean (gmean X (j 0) · (j 1)) 4096 : ℝ) : EReal)

/-- The variances the layer returns. -/
def targetVar (X : FVec Ideal S8x4096x2048 .f32) (P : FVec Ideal S8x32 .f32) : FVec Ideal S8x32 .f32 := fun j =>
  svar (gmean X (j 0) · (j 1)) (P j) 4096

/-- The counts the layer returns: every row is counted. -/
def targetCount : IVec S8 32 := fun _ => 4096#32

/-- The rows the layer returns, read at an index. -/
theorem targetY_apply (X : FVec Ideal S8x4096x2048 .f32) (P : FVec Ideal S8x32 .f32) (W B : FVec Ideal S2048 .f32)
    (b : Fin 8) (t : Fin 4096) (d : Fin 2048) : targetY X P W B (ix3 b t d)
      = yval (gmean X b · ⟨d / 64, by have := d.isLt; omega⟩) (P (ix2 b ⟨d / 64, by have := d.isLt; omega⟩)) (t + 1)
        (xrow X b t d) (EReal.toReal (W (ix1 d))) (B (ix1 d)) := rfl

end Cert.Proof
-- ==== Proof.Point.lean ====
module
public import proofs.«01_k».proof.Proof.Operands
public import proofs.«01_k».proof.Proof.Target
public import Idealize.ShloMosaic.Lib.Pipeline.ValueKit
@[expose] public section
/-!
One grid point: what the kernel leaves in its buffers when the carried rows hold the statistics of the
rows before the point.
-/
set_option maxRecDepth 16384
noncomputable section
namespace Cert.Proof.Point
open Idealize.ShloMosaic Idealize.ShloMosaic.TcCoe Idealize.SL.Sem Cert.KernelIdeal Cert.KernelIdeal.Gen Cert.Proof.Block Cert.Proof.Operands
variable (m : (ℓ : Loc nD τ sig) → Buf (Elt Ideal) ℓ) (c : Dev nD)

/-- Where each window's block sits at each grid point. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![t.val / 4, t.val % 4, 0] ∧ win0_7.index t = ![t.val / 4, 0, 0]
    ∧ win0_8.index t = ![t.val / 4, 0, 0] :=
  (by decide +kernel : ∀ t : Fin grid0.N, _)

/-- The chunk number of a grid point. -/
theorem chunk : ∀ t : Fin cfg0.N, ((grid0.coords t 1 : ℕ)) = t.val % 4 := (by decide +kernel : ∀ t : Fin grid0.N, _)

/-- The number of a stream. -/
abbrev stream (t : Fin cfg0.N) : Fin 8 := ⟨t.val / 4, by have h : t.val < 32 := lt_of_lt_of_eq t.isLt N_0; omega⟩

/-- The input block of a grid point. -/
abbrev bX (t : Fin cfg0.N) : FVec Ideal S1x1024x2048 .f32 := iblk m c 0 t
/-- The starting variance of a grid point's stream. -/
abbrev bP (t : Fin cfg0.N) : FVec Ideal S1x1x32 .f32 := iblk m c 1 t

/-- The input block read at an index. -/
theorem bX_apply (t : Fin cfg0.N) (r : Fin 1024) (k : Fin 2048) : bX m c t (ix3 0 r k)
    = argX m c (ix3 (stream t) ⟨t.val % 4 * 1024 + r, by have := r.isLt; omega⟩ k) := by
  blk_ext [iblk, V, idx t]

/-- The starting variance read at an index. -/
theorem bP_apply (t : Fin cfg0.N) (g : Fin 32) : bP m c t (ix3 0 0 g) = argVar m c (ix2 (stream t) g) := by
  rw [← v0_apply]
  blk_ext [iblk, idx t]

/-- The group indicator block is the whole array. -/
theorem bA (t : Fin cfg0.N) : iblk m c 2 t = V m c main_v10 := by blk_ext! [iblk, idx t]
/-- The lower triangle block is the whole array. -/
theorem bT (t : Fin cfg0.N) : iblk m c 3 t = V m c main_v29 := by blk_ext! [iblk, idx t]
/-- The spread block is the whole array. -/
theorem bW (t : Fin cfg0.N) : iblk m c 4 t = V m c main_v16 := by blk_ext! [iblk, idx t]
/-- The shift block is the whole array. -/
theorem bB (t : Fin cfg0.N) : iblk m c 5 t = V m c main_v21 := by blk_ext! [iblk, idx t]

end Cert.Proof.Point
-- ==== Proof.Chunk.lean ====
module
public import proofs.«01_k».proof.Proof.Target
@[expose] public section
/-!
The four sub-blocks of one grid point in a row: how the carried rows move on.
-/
set_option maxRecDepth 16384
noncomputable section
namespace Cert.Proof.Block
open Idealize.ShloMosaic Cert.KernelIdeal Cert.KernelIdeal.Gen

/-- A sub-block holds the 256 real rows from row `n` on. -/
def IsRows (x : ℕ → Fin 2048 → ℝ) (n : ℕ) (X : FVec Ideal S1x256x2048 .f32) : Prop :=
  ∀ (r : Fin 256) (k : Fin 2048), X (ix3 0 r k) = ((x (n + r) k : ℝ) : EReal)

/-- The squares of the group means. -/
abbrev squares (f : ℕ → Fin 32 → ℝ) : ℕ → Fin 32 → ℝ := fun i g => f i g * f i g

variable {T : FVec Ideal S256x512 .bf16} {A : FVec Ideal S2048x32 .bf16} (hA : IsGroup A) (hT : IsLower T)
  {x : ℕ → Fin 2048 → ℝ} {p : Fin 32 → EReal}

include hA in
/-- The group means of a sub-block. -/
theorem means_rows {n : ℕ} {X : FVec Ideal S1x256x2048 .f32} (hX : IsRows x n X) (r : Fin 256) (g : Fin 32) :
    means X A (ix2 r g) = ((groupMeans x (n + r) g : ℝ) : EReal) := means_apply hA hX r g

include hA in
/-- The squared group means of a sub-block. -/
theorem squares_rows {n : ℕ} {X : FVec Ideal S1x256x2048 .f32} (hX : IsRows x n X) (r : Fin 256) (g : Fin 32) :
    mulf (means X A) (means X A) (ix2 r g) = ((squares (groupMeans x) (n + r) g : ℝ) : EReal) := by
  pointwise
  rw [means_rows hA hX, ← EReal.coe_mul]

include hA hT

/-- The running sums in one sub-block. -/
theorem run_sum {n : ℕ} {X : FVec Ideal S1x256x2048 .f32} {s : FVec Ideal S1x32 .f32} (hX : IsRows x n X)
    (hs : Carried (groupMeans x) p n s) : Running (groupMeans x) p n (sums T (means X A) s) :=
  running_sums hT (means_rows hA hX) hs

/-- The running sums of squares in one sub-block. -/
theorem run_sq {n : ℕ} {X : FVec Ideal S1x256x2048 .f32} {s : FVec Ideal S1x32 .f32} (hX : IsRows x n X)
    (hs : Carried (squares (groupMeans x)) p n s) :
    Running (squares (groupMeans x)) p n (sums T (mulf (means X A) (means X A)) s) :=
  running_sums hT (squares_rows hA hX) hs

/-- One sub-block moves the carried sums on by 256 rows. -/
theorem next_sum {n : ℕ} {X : FVec Ideal S1x256x2048 .f32} {s : FVec Ideal S1x32 .f32} (hX : IsRows x n X)
    (hs : Carried (groupMeans x) p n s) : Carried (groupMeans x) p (n + 256) (final (sums T (means X A) s)) :=
  carried_final (run_sum hA hT hX hs)

/-- One sub-block moves the carried sums of squares on by 256 rows. -/
theorem next_sq {n : ℕ} {X : FVec Ideal S1x256x2048 .f32} {s : FVec Ideal S1x32 .f32} (hX : IsRows x n X)
    (hs : Carried (squares (groupMeans x)) p n s) :
    Carried (squares (groupMeans x)) p (n + 256) (final (sums T (mulf (means X A) (means X A)) s)) :=
  carried_final (run_sq hA hT hX hs)

section Several
variable {n : ℕ} {X0 X1 X2 X3 : FVec Ideal S1x256x2048 .f32} {s : FVec Ideal S1x32 .f32} (h0 : IsRows x n X0)
  (h1 : IsRows x (n + 256) X1) (h2 : IsRows x (n + 512) X2) (h3 : IsRows x (n + 768) X3)
include h0 h1

/-- Two sub-blocks move the carried sums on by 512 rows. -/
theorem next_sum2 (hs : Carried (groupMeans x) p n s) :
    Carried (groupMeans x) p (n + 512) (final (sums T (means X1 A) (final (sums T (means X0 A) s)))) :=
  next_sum hA hT h1 (next_sum hA hT h0 hs)

/-- Two sub-blocks move the carried sums of squares on by 512 rows. -/
theorem next_sq2 (hs : Carried (squares (groupMeans x)) p n s) :
    Carried (squares (groupMeans x)) p (n + 512) (final (sums T (mulf (means X1 A) (means X1 A))
      (final (sums T (mulf (means X0 A) (means X0 A)) s)))) :=
  next_sq hA hT h1 (next_sq hA hT h0 hs)

include h2

/-- Three sub-blocks move the carried sums on by 768 rows. -/
theorem next_sum3 (hs : Carried (groupMeans x) p n s) :
    Carried (groupMeans x) p (n + 768) (final (sums T (means X2 A) (final (sums T (means X1 A)
      (final (sums T (means X0 A) s)))))) :=
  next_sum hA hT h2 (next_sum2 hA hT h0 h1 hs)

/-- Three sub-blocks move the carried sums of squares on by 768 rows. -/
theorem next_sq3 (hs : Carried (squares (groupMeans x)) p n s) :
    Carried (squares (groupMeans x)) p (n + 768) (final (sums T (mulf (means X2 A) (means X2 A))
      (final (sums T (mulf (means X1 A) (means X1 A)) (final (sums T (mulf (means X0 A) (means X0 A)) s)))))) :=
  next_sq hA hT h2 (next_sq2 hA hT h0 h1 hs)

include h3

/-- Four sub-blocks move the carried sums on by 1024 rows. -/
theorem next_sum4 (hs : Carried (groupMeans x) p n s) :
    Carried (groupMeans x) p (n + 1024) (final (sums T (means X3 A) (final (sums T (means X2 A)
      (final (sums T (means X1 A) (final (sums T (means X0 A) s)))))))) :=
  next_sum hA hT h3 (next_sum3 hA hT h0 h1 h2 hs)

/-- Four sub-blocks move the carried sums of squares on by 1024 rows. -/
theorem next_sq4 (hs : Carried (squares (groupMeans x)) p n s) :
    Carried (squares (groupMeans x)) p (n + 1024) (final (sums T (mulf (means X3 A) (means X3 A))
      (final (sums T (mulf (means X2 A) (means X2 A)) (final (sums T (mulf (means X1 A) (means X1 A))
        (final (sums T (mulf (means X0 A) (means X0 A)) s)))))))) :=
  next_sq hA hT h3 (next_sq3 hA hT h0 h1 h2 hs)
end Several

/-- One sub-block stores the normalised rows. -/
theorem out_rows {n : ℕ} {X : FVec Ideal S1x256x2048 .f32} {s u : FVec Ideal S1x32 .f32} {W : FVec Ideal S64x2048 .bf16}
    {B : FVec Ideal S65x2048 .bf16} {w : Fin 2048 → ℝ} {b : Fin 2048 → EReal} (hW : IsSpread w W) (hB : IsShift w b B)
    (hp : ∀ g, 0 < p g + ((eps : ℝ) : EReal)) (hn : n ≤ 4096) {l q : BitVec 32} (hq : base l q = BitVec.ofNat 32 (n + 1))
    (hX : IsRows x n X) (hs : Carried (groupMeans x) 0 n s) (hu : Carried (squares (groupMeans x)) p n u)
    (r : Fin 256) (d : Fin 2048) :
    out s u T X A W B l q (ix3 0 r d)
      = yval (groupMeans x · ⟨d / 64, by have := d.isLt; omega⟩) (p ⟨d / 64, by have := d.isLt; omega⟩) (n + r + 1)
        (x (n + r) d) (w d) (b d) :=
  out_apply hA hT hW hB hp hn hq (x := fun r k => x (n + r) k) hX (fun _ _ => rfl) hs hu r d

end Cert.Proof.Block
-- ==== Proof.Carry.lean ====
module
public import proofs.«01_k».proof.Proof.Point
public import proofs.«01_k».proof.Proof.Chunk
public import Idealize.ShloMosaic.Lib.Pipeline.ReadBack
@[expose] public section
/-!
The two rows the kernel carries from point to point: after each point they hold the sums over the rows
of the stream seen so far.
-/
set_option maxRecDepth 16384
noncomputable section
namespace Cert.Proof.Point
open Idealize.ShloMosaic Idealize.ShloMosaic.TcCoe Idealize.SL.Sem Cert.KernelIdeal Cert.KernelIdeal.Gen Cert.Proof.Block Cert.Proof.Operands
variable (m : (ℓ : Loc nD τ sig) → Buf (Elt Ideal) ℓ) (c : Dev nD)

/-- Storing a row does not change it. -/
theorem pay2 (v : FVec Ideal S1x32 .f32) : k0_pay2 v = v := by
  funext j
  pointwise [k0_pay2]

/-- Storing a row does not change it. -/
theorem pay3 (v : FVec Ideal S1x32 .f32) : k0_pay3 v = v := by
  funext j
  pointwise [k0_pay3]

section Loads
variable (X : Vec Ideal S1x1024x2048 .f32) (r : Fin 256) (k : Fin 2048)
/-- A load of rows 0 to 255. -/
theorem ld0 : View.ld X (Rect.unit ![0, 0, 0] ![1, 256, 2048] inb_S1x1024x2048_S1x256x2048_0_0_0) (ix3 0 r k)
    = X (ix3 0 ⟨r, by omega⟩ k) := by pointwise
/-- A load of rows 256 to 511. -/
theorem ld1 : View.ld X (Rect.unit ![0, 256, 0] ![1, 256, 2048] inb_S1x1024x2048_S1x256x2048_0_256_0) (ix3 0 r k)
    = X (ix3 0 ⟨256 + r, by omega⟩ k) := by pointwise
/-- A load of rows 512 to 767. -/
theorem ld2 : View.ld X (Rect.unit ![0, 512, 0] ![1, 256, 2048] inb_S1x1024x2048_S1x256x2048_0_512_0) (ix3 0 r k)
    = X (ix3 0 ⟨512 + r, by omega⟩ k) := by pointwise
/-- A load of rows 768 to 1023. -/
theorem ld3 : View.ld X (Rect.unit ![0, 768, 0] ![1, 256, 2048] inb_S1x1024x2048_S1x256x2048_0_768_0) (ix3 0 r k)
    = X (ix3 0 ⟨768 + r, by omega⟩ k) := by pointwise
end Loads

/-- A load of the first carried row. -/
theorem ldRow0 (S : Vec Ideal S2x32 .f32) (g : Fin 32) :
    View.ld (View.read (Elt Ideal) (View.whole cc0_scratch0) ((Memref.isWhole_whole cc0_scratch0).unread S))
      (Rect.unit ![0, 0] ![1, 32] inb_S2x32_S1x32_0_0) (ix2 0 g) = S (ix2 0 g) := by
  pointwise
  exact congrFun ((Memref.isWhole_whole cc0_scratch0).read_unread S) _

/-- A load of the second carried row. -/
theorem ldRow1 (S : Vec Ideal S2x32 .f32) (g : Fin 32) :
    View.ld (View.read (Elt Ideal) (View.whole cc0_scratch0) ((Memref.isWhole_whole cc0_scratch0).unread S))
      (Rect.unit ![1, 0] ![1, 32] inb_S2x32_S1x32_1_0) (ix2 0 g) = S (ix2 1 g) := by
  pointwise
  exact congrFun ((Memref.isWhole_whole cc0_scratch0).read_unread S) _

/-- A load of the second carried row just after both were stored. -/
theorem backRow1 (v u : Vec Ideal S1x32 .f32) : (View.whole cc0_scratch0).readCov
    [⟨Rect.unit ![1, 0] ![1, 32] inb_S2x32_S1x32_1_0, v⟩, ⟨Rect.unit ![0, 0] ![1, 32] inb_S2x32_S1x32_0_0, u⟩]
    (Rect.unit ![1, 0] ![1, 32] inb_S2x32_S1x32_1_0).toLoadRect = v := by
  rw [View.readCov_cons_toLoadRect]

/-- A load of the first carried row just after both were stored. -/
theorem backRow0 (v u : Vec Ideal S1x32 .f32) : (View.whole cc0_scratch0).readCov
    [⟨Rect.unit ![1, 0] ![1, 32] inb_S2x32_S1x32_1_0, v⟩, ⟨Rect.unit ![0, 0] ![1, 32] inb_S2x32_S1x32_0_0, u⟩]
    (Rect.unit ![0, 0] ![1, 32] inb_S2x32_S1x32_0_0).toLoadRect = u := by
  rw [View.readCov_skip _ _ _ _ _ (by decide), View.readCov_cons_toLoadRect]

/-- The first row as a rectangle. -/
abbrev rect0 : Rect S2x32 := Rect.unit ![0, 0] ![1, 32] inb_S2x32_S1x32_0_0
/-- The second row as a rectangle. -/
abbrev rect1 : Rect S2x32 := Rect.unit ![1, 0] ![1, 32] inb_S2x32_S1x32_1_0

/-- The second row, after a store to it. -/
theorem canonRow1 (v : Vec Ideal S1x32 .f32) (L : List (View.Piece (Elt Ideal) S2x32 .f32)) (g : Fin 32) :
    View.canon (⟨rect1, v⟩ :: L) (ix2 1 g) = v (ix2 0 g) := by
  have e : (ix2 1 g : S2x32.Idx) = rect1.emb (ix2 0 g : S1x32.Idx) := by blk_ext
  rw [e]
  exact View.canon_cons_emb rect1 v L (ix2 0 g : S1x32.Idx)

/-- The first row, after a store to it and one to the second. -/
theorem canonRow0 (v u : Vec Ideal S1x32 .f32) (L : List (View.Piece (Elt Ideal) S2x32 .f32)) (g : Fin 32) :
    View.canon (⟨rect1, v⟩ :: ⟨rect0, u⟩ :: L) (ix2 0 g) = u (ix2 0 g) := by
  have e : (ix2 0 g : S2x32.Idx) = rect0.emb (ix2 0 g : S1x32.Idx) := by blk_ext
  have h : rect0.emb (ix2 0 g : S1x32.Idx) ∉ rect1.set :=
    LoadRect.idx_not_mem_of_disj (p := rect1) (B := rect0.toLoadRect) (by decide) (ix2 0 g : S1x32.Idx)
  rw [e]
  exact (View.canon_cons_of_not_mem ⟨rect1, v⟩ _ h).trans (View.canon_cons_emb rect0 u L (ix2 0 g : S1x32.Idx))

/-- The index of a carried row is its lane. -/
theorem rowIdx (x : S1x32.Idx) (g : Fin 32) (h : (g : ℕ) = x 1) : x = ix2 0 g := by
  idx_vars x
  obtain rfl : x1 = g := Fin.ext h.symm
  blk_ext

/-- The rows carried after a point. -/
abbrev scr (t : Fin cfg0.N) : FVec Ideal S2x32 .f32 := (outsAt0 m c t.val t.isLt).2.2.2

/-- The kernel's group indicator block is one. -/
theorem grp (t : Fin cfg0.N) : IsGroup (iblk m c 2 t) := by
  rw [bA]
  exact isGroup m c

/-- The kernel's lower triangle block is one. -/
theorem low (t : Fin cfg0.N) : IsLower (iblk m c 3 t) := by
  rw [bT]
  exact isLower m c

/-- The real rows of a point's stream. -/
abbrev rowsOf (t : Fin cfg0.N) : ℕ → Fin 2048 → ℝ := xrow (argX m c) (stream t)

/-- The starting variance of a point's stream. -/
abbrev varOf (t : Fin cfg0.N) : Fin 32 → EReal := fun g => argVar m c (ix2 (stream t) g)

/-- What two carried rows hold: the sums over the first `n` rows of the point's stream. -/
def Held (t : Fin cfg0.N) (n : ℕ) (S : FVec Ideal S2x32 .f32) : Prop :=
  (∀ g : Fin 32, S (ix2 0 g) = ((psum (groupMeans (rowsOf m c t) · g) n : ℝ) : EReal) + (0 : Fin 32 → EReal) g)
  ∧ ∀ g : Fin 32, S (ix2 1 g) = ((psum (squares (groupMeans (rowsOf m c t)) · g) n : ℝ) : EReal) + varOf m c t g

/-- The rows a stream starts with: zero, and the starting variance. -/
theorem start0 (t : Fin cfg0.N) : Carried (groupMeans (rowsOf m c t)) 0 0 k0_pay4 := by
  intro g
  rw [psum_zero]
  pointwise [k0_pay4]
  simp

/-- The rows a stream starts with: zero, and the starting variance. -/
theorem start1 (t : Fin cfg0.N) : Carried (squares (groupMeans (rowsOf m c t))) (varOf m c t) 0 (k0_pay5 (iblk m c 1 t)) := by
  intro g
  rw [psum_zero, varOf, ← bP_apply]
  pointwise [k0_pay5]
  simp

variable (hx : AllReal (argX m c))
include hx

/-- The input block holds the real rows of its stream. -/
theorem block_rows (t : Fin cfg0.N) (r : Fin 1024) (k : Fin 2048) (i : ℕ) (hi : i = t.val % 4 * 1024 + r) :
    bX m c t (ix3 0 r k) = ((rowsOf m c t i k : ℝ) : EReal) := by
  have hr := r.isLt
  subst hi
  rw [bX_apply, hx, rowsOf, xrow, dif_pos (by omega)]

section Tiles
variable (t : Fin cfg0.N)
/-- The first sub-block's rows. -/
theorem tile0 : IsRows (rowsOf m c t) (t.val % 4 * 1024)
    (View.ld (iblk m c 0 t) (Rect.unit ![0, 0, 0] ![1, 256, 2048] inb_S1x1024x2048_S1x256x2048_0_0_0)) :=
  fun r k => (ld0 _ r k).trans (block_rows m c hx t ⟨r, by omega⟩ k _ rfl)
/-- The second sub-block's rows. -/
theorem tile1 : IsRows (rowsOf m c t) (t.val % 4 * 1024 + 256)
    (View.ld (iblk m c 0 t) (Rect.unit ![0, 256, 0] ![1, 256, 2048] inb_S1x1024x2048_S1x256x2048_0_256_0)) :=
  fun r k => (ld1 _ r k).trans (block_rows m c hx t ⟨256 + r, by omega⟩ k _ (Nat.add_assoc _ _ _))
/-- The third sub-block's rows. -/
theorem tile2 : IsRows (rowsOf m c t) (t.val % 4 * 1024 + 512)
    (View.ld (iblk m c 0 t) (Rect.unit ![0, 512, 0] ![1, 256, 2048] inb_S1x1024x2048_S1x256x2048_0_512_0)) :=
  fun r k => (ld2 _ r k).trans (block_rows m c hx t ⟨512 + r, by omega⟩ k _ (Nat.add_assoc _ _ _))
/-- The fourth sub-block's rows. -/
theorem tile3 : IsRows (rowsOf m c t) (t.val % 4 * 1024 + 768)
    (View.ld (iblk m c 0 t) (Rect.unit ![0, 768, 0] ![1, 256, 2048] inb_S1x1024x2048_S1x256x2048_0_768_0)) :=
  fun r k => (ld3 _ r k).trans (block_rows m c hx t ⟨768 + r, by omega⟩ k _ (Nat.add_assoc _ _ _))
end Tiles

/-- The carried sums after a point that starts a stream. -/
theorem sumA (t : Fin cfg0.N) (h0 : t.val % 4 = 0) (g : Fin 32) : scr m c t (ix2 0 g)
    = ((psum (groupMeans (rowsOf m c t) · g) (t.val % 4 * 1024 + 1024) : ℝ) : EReal) + (0 : Fin 32 → EReal) g := by
  unfold scr
  rw [outsAt0_A m c t h0]
  frame_out
  rw [canonRow0, carry3, carry2, carry1, carry0, pay2, backRow0]
  refine next_sum4 (grp m c t) (low m c t) (tile0 m c hx t) (tile1 m c hx t) (tile2 m c hx t) (tile3 m c hx t) ?_ g
  rw [h0, Nat.zero_mul]
  exact start0 m c t

/-- The carried sums after a point inside a stream. -/
theorem sumB (t : Fin cfg0.N) (h0 : ¬ t.val % 4 = 0) (h : Held m c t (t.val % 4 * 1024) (outsAt0 m c (t.val - 1) (Nat.lt_of_le_of_lt (Nat.sub_le _ _) t.isLt)).2.2.2)
    (g : Fin 32) : scr m c t (ix2 0 g)
    = ((psum (groupMeans (rowsOf m c t) · g) (t.val % 4 * 1024 + 1024) : ℝ) : EReal) + (0 : Fin 32 → EReal) g := by
  unfold scr
  rw [outsAt0_B m c t h0]
  frame_out
  rw [canonRow0, carry3, carry2, carry1, carry0, pay2]
  exact next_sum4 (grp m c t) (low m c t) (tile0 m c hx t) (tile1 m c hx t) (tile2 m c hx t) (tile3 m c hx t)
    (fun g => (ldRow0 _ g).trans (h.1 g)) g

/-- The carried sums of squares after a point that starts a stream. -/
theorem sqA (t : Fin cfg0.N) (h0 : t.val % 4 = 0) (g : Fin 32) : scr m c t (ix2 1 g)
    = ((psum (squares (groupMeans (rowsOf m c t)) · g) (t.val % 4 * 1024 + 1024) : ℝ) : EReal) + varOf m c t g := by
  unfold scr
  rw [outsAt0_A m c t h0]
  frame_out
  rw [canonRow1, carrySq3, carrySq2, carrySq1, carrySq0, pay3, backRow1]
  refine next_sq4 (grp m c t) (low m c t) (tile0 m c hx t) (tile1 m c hx t) (tile2 m c hx t) (tile3 m c hx t) ?_ g
  rw [h0, Nat.zero_mul]
  exact start1 m c t

/-- The carried sums of squares after a point inside a stream. -/
theorem sqB (t : Fin cfg0.N) (h0 : ¬ t.val % 4 = 0) (h : Held m c t (t.val % 4 * 1024) (outsAt0 m c (t.val - 1) (Nat.lt_of_le_of_lt (Nat.sub_le _ _) t.isLt)).2.2.2)
    (g : Fin 32) : scr m c t (ix2 1 g)
    = ((psum (squares (groupMeans (rowsOf m c t)) · g) (t.val % 4 * 1024 + 1024) : ℝ) : EReal) + varOf m c t g := by
  unfold scr
  rw [outsAt0_B m c t h0]
  frame_out
  rw [canonRow1, carrySq3, carrySq2, carrySq1, carrySq0, pay3]
  exact next_sq4 (grp m c t) (low m c t) (tile0 m c hx t) (tile1 m c hx t) (tile2 m c hx t) (tile3 m c hx t)
    (fun g => (ldRow1 _ g).trans (h.2 g)) g

/-- After every point the carried rows hold the sums over the rows of its stream seen so far. -/
theorem held (n : ℕ) (hn : n < cfg0.N) :
    Held m c ⟨n, hn⟩ (n % 4 * 1024 + 1024) (outsAt0 m c n hn).2.2.2 := by
  induction n with
  | zero => exact ⟨sumA m c hx ⟨0, hn⟩ rfl, sqA m c hx ⟨0, hn⟩ rfl⟩
  | succ n ih =>
    by_cases h0 : (n + 1) % 4 = 0
    · exact ⟨sumA m c hx ⟨n + 1, hn⟩ h0, sqA m c hx ⟨n + 1, hn⟩ h0⟩
    · have h := ih (by omega)
      have e : stream ⟨n, by omega⟩ = stream ⟨n + 1, hn⟩ := Fin.ext (by show n / 4 = (n + 1) / 4; omega)
      have h' : Held m c ⟨n + 1, hn⟩ ((n + 1) % 4 * 1024) (outsAt0 m c n (by omega)).2.2.2 := by
        rw [Held, rowsOf]
        unfold varOf
        rw [← e, show (n + 1) % 4 * 1024 = n % 4 * 1024 + 1024 by omega]
        exact h
      exact ⟨sumB m c hx ⟨n + 1, hn⟩ h0 h', sqB m c hx ⟨n + 1, hn⟩ h0 h'⟩

/-- Before a point inside a stream the carried rows hold the sums over the rows before it. -/
theorem held_before (t : Fin cfg0.N) (h0 : ¬ t.val % 4 = 0) :
    Held m c t (t.val % 4 * 1024) (outsAt0 m c (t.val - 1) (Nat.lt_of_le_of_lt (Nat.sub_le _ _) t.isLt)).2.2.2 := by
  have h := held m c hx (t.val - 1) (Nat.lt_of_le_of_lt (Nat.sub_le _ _) t.isLt)
  have e : stream ⟨t.val - 1, Nat.lt_of_le_of_lt (Nat.sub_le _ _) t.isLt⟩ = stream t :=
    Fin.ext (by show (t.val - 1) / 4 = t.val / 4; omega)
  rw [Held, rowsOf] at h
  unfold varOf at h
  rw [e, show (t.val - 1) % 4 * 1024 + 1024 = t.val % 4 * 1024 by omega] at h
  exact h

end Cert.Proof.Point
-- ==== Proof.Rows.lean ====
module
public import proofs.«01_k».proof.Proof.Carry
@[expose] public section
/-!
The rows, the mean and the variance the kernel leaves in its output buffers at each grid point.
-/
set_option maxRecDepth 16384
noncomputable section
namespace Cert.Proof.Point
open Idealize.ShloMosaic Idealize.ShloMosaic.TcCoe Idealize.SL.Sem Cert.KernelIdeal Cert.KernelIdeal.Gen Cert.Proof.Block Cert.Proof.Operands
variable (m : (ℓ : Loc nD τ sig) → Buf (Elt Ideal) ℓ) (c : Dev nD)

/-- The number of rows before a sub-block, plus one. -/
theorem base_eq (l q : ℕ) : base (BitVec.ofNat 32 l) (BitVec.ofNat 32 q) = BitVec.ofNat 32 (l * 1024 + q + 1) := by
  simp only [BitVec.ofNat_add, BitVec.ofNat_mul]
  rfl

/-- The number of rows before the last sub-block of a point, plus one. -/
theorem base_last (t : Fin cfg0.N) :
    base (BitVec.ofNat 32 (grid0.coords t 1)) 768#32 = BitVec.ofNat 32 (t.val % 4 * 1024 + 768 + 1) := by
  rw [chunk t]
  exact base_eq _ 768

/-- The last row of a block, stored with unit axes. -/
theorem last_apply (M : FVec Ideal S256x32 .f32) (y : S1x1x32.Idx) :
    shapeCast S1x1x32 (final M) shapeCasts_S1x32_S1x1x32 y = M (ix2 255 (y 2 : Fin 32)) := by
  pointwise [final]

/-- What the layer asks of its arguments: real rows, a real weight, and a variance whose sum with `eps` is positive. -/
structure Good : Prop where
  /-- The input is real. -/
  rows : AllReal (argX m c)
  /-- The weight is real. -/
  weight : AllReal (argW m c)
  /-- The starting variance plus `eps` is positive. -/
  var : ∀ b g, 0 < argVar m c (ix2 b g) + ((eps : ℝ) : EReal)

/-- The layer's row `i` of a point's chunk, lane `d`. -/
def rowAt (t : Fin cfg0.N) (i : ℕ) (d : Fin 2048) : EReal :=
  yval (groupMeans (rowsOf m c t) · ⟨d / 64, by have := d.isLt; omega⟩) (varOf m c t ⟨d / 64, by have := d.isLt; omega⟩)
    (t.val % 4 * 1024 + i + 1) (rowsOf m c t (t.val % 4 * 1024 + i) d) (EReal.toReal (argW m c (ix1 d))) (argB m c (ix1 d))

variable (hg : Good m c)
include hg

/-- What a sub-block stores is the layer's rows. -/
theorem piece (t : Fin cfg0.N) (q : ℕ) (hq : q ≤ 768) {s u : FVec Ideal S1x32 .f32} {X : FVec Ideal S1x256x2048 .f32}
    (hX : IsRows (rowsOf m c t) (t.val % 4 * 1024 + q) X)
    (hs : Carried (groupMeans (rowsOf m c t)) 0 (t.val % 4 * 1024 + q) s)
    (hu : Carried (squares (groupMeans (rowsOf m c t))) (varOf m c t) (t.val % 4 * 1024 + q) u)
    (x : S1x256x2048.Idx) (i : ℕ) (d : Fin 2048) (hi : i = q + x 1) (hd : (d : ℕ) = x 2) :
    out s u (iblk m c 3 t) X (iblk m c 2 t) (iblk m c 4 t) (iblk m c 5 t)
      (BitVec.ofNat 32 (grid0.coords t 1)) (BitVec.ofNat 32 q) x = rowAt m c t i d := by
  have hW := isSpread m c (w := fun d => EReal.toReal (argW m c (ix1 d))) (fun d => hg.weight _)
  have hB := isShift m c (w := fun d => EReal.toReal (argW m c (ix1 d))) (fun d => hg.weight _)
  rw [← bW m c t] at hW
  rw [← bB m c t] at hB
  have hq' : base (BitVec.ofNat 32 (grid0.coords t 1)) (BitVec.ofNat 32 q) = BitVec.ofNat 32 (t.val % 4 * 1024 + q + 1) := by
    rw [chunk t]
    exact base_eq _ q
  have h := out_rows (grp m c t) (low m c t) hW hB (fun g => hg.var _ g) (by omega) hq' hX hs hu (x 1) d
  have e : x = ix3 0 (x 1 : Fin 256) d := by
    idx_vars x
    obtain rfl : x2 = d := Fin.ext hd.symm
    blk_ext
  subst hi
  rw [rowAt, ← Nat.add_assoc, e]
  exact h

/-- The rows stored by a point that starts a stream. -/
theorem rowsA (t : Fin cfg0.N) (h0 : t.val % 4 = 0) (y : S1x1024x2048.Idx) :
    (outsAt0 m c t.val t.isLt).1 y = rowAt m c t (y 1) (y 2) := by
  have s0 : Carried (groupMeans (rowsOf m c t)) 0 (t.val % 4 * 1024) k0_pay4 := by
    rw [h0]; exact start0 m c t
  have u0 : Carried (squares (groupMeans (rowsOf m c t))) (varOf m c t) (t.val % 4 * 1024) (k0_pay5 (iblk m c 1 t)) := by
    rw [h0]; exact start1 m c t
  have X0 := tile0 m c hg.rows t
  have X1 := tile1 m c hg.rows t
  have X2 := tile2 m c hg.rows t
  have X3 := tile3 m c hg.rows t
  rw [outsAt0_A m c t h0]
  frame_out
  canon_tiles x hh
  case piece0 =>
    rw [carry2, carry1, carry0, carrySq2, carrySq1, carrySq0, backRow0, backRow1, out3]
    exact piece m c hg t 768 (by omega) X3 (next_sum3 (grp m c t) (low m c t) X0 X1 X2 s0)
      (next_sq3 (grp m c t) (low m c t) X0 X1 X2 u0) x _ _ hh1 hh2
  case piece1 =>
    rw [carry1, carry0, carrySq1, carrySq0, backRow0, backRow1, out2]
    exact piece m c hg t 512 (by omega) X2 (next_sum2 (grp m c t) (low m c t) X0 X1 s0)
      (next_sq2 (grp m c t) (low m c t) X0 X1 u0) x _ _ hh1 hh2
  case piece2 =>
    rw [carry0, carrySq0, backRow0, backRow1, out1]
    exact piece m c hg t 256 (by omega) X1 (next_sum (grp m c t) (low m c t) X0 s0)
      (next_sq (grp m c t) (low m c t) X0 u0) x _ _ hh1 hh2
  case piece3 =>
    rw [backRow0, backRow1, out0]
    exact piece m c hg t 0 (by omega) X0 s0 u0 x _ _ (by omega) hh2

/-- The rows stored by a point inside a stream. -/
theorem rowsB (t : Fin cfg0.N) (h0 : ¬ t.val % 4 = 0) (y : S1x1024x2048.Idx) :
    (outsAt0 m c t.val t.isLt).1 y = rowAt m c t (y 1) (y 2) := by
  have h := held_before m c hg.rows t h0
  have s0 := fun g => (ldRow0 _ g).trans (h.1 g)
  have u0 := fun g => (ldRow1 _ g).trans (h.2 g)
  have X0 := tile0 m c hg.rows t
  have X1 := tile1 m c hg.rows t
  have X2 := tile2 m c hg.rows t
  have X3 := tile3 m c hg.rows t
  rw [outsAt0_B m c t h0]
  frame_out
  canon_tiles x hh
  case piece0 =>
    rw [carry2, carry1, carry0, carrySq2, carrySq1, carrySq0, out3]
    exact piece m c hg t 768 (by omega) X3 (next_sum3 (grp m c t) (low m c t) X0 X1 X2 s0)
      (next_sq3 (grp m c t) (low m c t) X0 X1 X2 u0) x _ _ hh1 hh2
  case piece1 =>
    rw [carry1, carry0, carrySq1, carrySq0, out2]
    exact piece m c hg t 512 (by omega) X2 (next_sum2 (grp m c t) (low m c t) X0 X1 s0)
      (next_sq2 (grp m c t) (low m c t) X0 X1 u0) x _ _ hh1 hh2
  case piece2 =>
    rw [carry0, carrySq0, out1]
    exact piece m c hg t 256 (by omega) X1 (next_sum (grp m c t) (low m c t) X0 s0)
      (next_sq (grp m c t) (low m c t) X0 u0) x _ _ hh1 hh2
  case piece3 =>
    rw [out0]
    exact piece m c hg t 0 (by omega) X0 s0 u0 x _ _ (by omega) hh2

/-- The mean stored by the last point of a stream. -/
theorem meanLast (t : Fin cfg0.N) (h3 : t.val % 4 = 3) (y : S1x1x32.Idx) :
    (outsAt0 m c t.val t.isLt).2.1 y = ((smean (groupMeans (rowsOf m c t) · (y 2)) 4096 : ℝ) : EReal) := by
  have h0 : ¬ t.val % 4 = 0 := by omega
  have h := held_before m c hg.rows t h0
  have hC := run_sum (p := 0) (grp m c t) (low m c t) (tile3 m c hg.rows t) (next_sum3 (grp m c t) (low m c t) (tile0 m c hg.rows t)
    (tile1 m c hg.rows t) (tile2 m c hg.rows t) fun g => (ldRow0 _ g).trans (h.1 g))
  have hr := rmean_apply hC (by omega) 255 (y 2)
  rw [outsAt0_B m c t h0]
  frame_out
  rw [carry2, carry1, carry0, outMean, last_apply, base_last]
  refine hr.trans ?_
  rw [h3]
  rfl

/-- The variance stored by the last point of a stream. -/
theorem varLast (t : Fin cfg0.N) (h3 : t.val % 4 = 3) (y : S1x1x32.Idx) :
    (outsAt0 m c t.val t.isLt).2.2.1 y = svar (groupMeans (rowsOf m c t) · (y 2)) (varOf m c t (y 2)) 4096 := by
  have h0 : ¬ t.val % 4 = 0 := by omega
  have h := held_before m c hg.rows t h0
  have hC := run_sum (p := 0) (grp m c t) (low m c t) (tile3 m c hg.rows t) (next_sum3 (grp m c t) (low m c t) (tile0 m c hg.rows t)
    (tile1 m c hg.rows t) (tile2 m c hg.rows t) fun g => (ldRow0 _ g).trans (h.1 g))
  have hD := run_sq (grp m c t) (low m c t) (tile3 m c hg.rows t) (next_sq3 (grp m c t) (low m c t) (tile0 m c hg.rows t)
    (tile1 m c hg.rows t) (tile2 m c hg.rows t) fun g => (ldRow1 _ g).trans (h.2 g))
  have hr := rvar_apply hC hD (by omega) 255 (y 2)
  rw [outsAt0_B m c t h0]
  frame_out
  rw [carry2, carry1, carry0, carrySq2, carrySq1, carrySq0, outVar, last_apply, base_last]
  refine hr.trans ?_
  rw [h3]
  rfl

end Cert.Proof.Point
-- ==== Proof.KernelRun.lean ====
module
public import proofs.«01_k».proof.Proof.Rows
@[expose] public section
/-!
The kernel's run: its four results are the layer's.
-/
set_option maxRecDepth 16384
noncomputable section
namespace Cert.Proof.Point
open Idealize.ShloMosaic Idealize.ShloMosaic.TcCoe Idealize.SL.Sem Cert.KernelIdeal Cert.KernelIdeal.Gen Cert.Proof.Block Cert.Proof.Operands
open Idealize.ShloMosaic.Pipeline (Dat)
variable (m : (ℓ : Loc nD τ sig) → Buf (Elt Ideal) ℓ)

section Arrays
variable (c : Dev nD) (hg : Good m c)

/-- The means with a unit axis. -/
def mean3 : FVec Ideal S8x1x32 .f32 := fun j => targetMean (argX m c) (ix2 (j 0 : Fin 8) (j 2 : Fin 32))
/-- The variances with a unit axis. -/
def out3 : FVec Ideal S8x1x32 .f32 := fun j => targetVar (argX m c) (argVar m c) (ix2 (j 0 : Fin 8) (j 2 : Fin 32))

include hg

/-- The kernel's rows are the layer's. -/
theorem arrY : (dats m 0 c).arrAt 6 (cfgs 0).N = targetY (argX m c) (argVar m c) (argW m c) (argB m c) := by
  refine (dats m 0 c).arrAt_eq_of_covers 6 _ (by decide +kernel) fun t _ y => ?_
  blk_simp
  rw [after0_6]
  have h : (outsAt0 m c t.val t.isLt).1 y = rowAt m c t (y 1) (y 2) := by
    by_cases h0 : t.val % 4 = 0
    · exact rowsA m c hg t h0 y
    · exact rowsB m c hg t h0 y
  refine h.trans ?_
  have e : ((cfg0.win 6).blk t).view.emb y
      = ix3 (stream t) ⟨t.val % 4 * 1024 + y 1, by have h : (y 1 : ℕ) < 1024 := (y 1).isLt; omega⟩ (y 2 : Fin 2048) := by
    blk_ext [idx t]
  rw [e]
  exact (targetY_apply (argX m c) (argVar m c) (argW m c) (argB m c) (stream t) ⟨t.val % 4 * 1024 + y 1, by have h : (y 1 : ℕ) < 1024 := (y 1).isLt; omega⟩ (y 2)).symm

/-- The kernel's means are the layer's. -/
theorem arrMean : (dats m 0 c).arrAt 7 (cfgs 0).N = mean3 m c := by
  refine (dats m 0 c).arrAt_eq_of_covers 7 _ (by decide +kernel) fun t hf y => ?_
  blk_simp
  rw [after0_7]
  refine (meanLast m c hg t ((flush0_7 t).mp hf) y).trans ?_
  have e : ((cfg0.win 7).blk t).view.emb y = ix3 (stream t) 0 (y 2 : Fin 32) := by
    blk_ext [idx t]
  rw [e]
  rfl

/-- The kernel's variances are the layer's. -/
theorem arrVar : (dats m 0 c).arrAt 8 (cfgs 0).N = out3 m c := by
  refine (dats m 0 c).arrAt_eq_of_covers 8 _ (by decide +kernel) fun t hf y => ?_
  blk_simp
  rw [after0_8]
  refine (varLast m c hg t ((flush0_8 t).mp hf) y).trans ?_
  have e : ((cfg0.win 8).blk t).view.emb y = ix3 (stream t) 0 (y 2 : Fin 32) := by
    blk_ext [idx t]
  rw [e]
  rfl
end Arrays

/-- The padding mask. -/
abbrev argMask (c : Dev nD) : IVec S8x4096 1 := m (c.tc.loc main_arg1)
/-- The starting counts. -/
abbrev argCount (c : Dev nD) : IVec S8 32 := m (c.tc.loc main_arg2)

/-- The counts after the region. -/
theorem tailCount (c : Dev nD) : Pipeline.afterTail₀ cfgs (dats m) 0 (V0 m) [hostOps1] c main_v33
    = addi (argCount m c) (Host.reduce IntOp.addi (extui 32 (argMask m c) natLt_1_32) (constantI S_ 32 0#32) reducesTo_S8x4096_S8_d1 h_S_) := by
  have h1 : V0 m c (Proc.tc.devRef main_arg1) = argMask m c := V_main_arg1 m c
  have h2 : V0 m c (Proc.tc.devRef main_arg2) = argCount m c := V_main_arg2 m c
  unfold Pipeline.afterTail₀
  simp only [List.flatten_cons, List.flatten_nil, List.append_nil]
  after_reads_simp
  rw [Pipeline.withArrays_of_ne _ c (V0 m c) _ main_arg1 (by decide), Pipeline.withArrays_of_ne _ c (V0 m c) _ main_arg2 (by decide), h1, h2]

/-- The means after the region. -/
theorem tailMean (c : Dev nD) (hg : Good m c) : Pipeline.afterTail₀ cfgs (dats m) 0 (V0 m) [hostOps1] c main_v34
    = targetMean (argX m c) := by
  have h : Pipeline.withArrays (cfgs 0).spec c (V0 m c) (fun w => (dats m 0 c).arrAt w (cfgs 0).N) (Proc.tc.devRef main_v30_1)
      = mean3 m c :=
    (Pipeline.withArrays_arr (cfgs 0).spec launch0.win.arr_inj c (V0 m c) (fun w => (dats m 0 c).arrAt w (cfgs 0).N) 7).trans (arrMean m c hg)
  unfold Pipeline.afterTail₀
  simp only [List.flatten_cons, List.flatten_nil, List.append_nil]
  after_reads_simp
  rw [h]
  show shapeCast S8x32 (mean3 m c) shapeCasts_S8x1x32_S8x32 = targetMean (argX m c)
  funext y
  idx_vars y
  pointwise [mean3]

/-- The variances after the region. -/
theorem tailVar (c : Dev nD) (hg : Good m c) : Pipeline.afterTail₀ cfgs (dats m) 0 (V0 m) [hostOps1] c main_v35
    = targetVar (argX m c) (argVar m c) := by
  have h : Pipeline.withArrays (cfgs 0).spec c (V0 m c) (fun w => (dats m 0 c).arrAt w (cfgs 0).N) (Proc.tc.devRef main_v30_2)
      = out3 m c :=
    (Pipeline.withArrays_arr (cfgs 0).spec launch0.win.arr_inj c (V0 m c) (fun w => (dats m 0 c).arrAt w (cfgs 0).N) 8).trans (arrVar m c hg)
  unfold Pipeline.afterTail₀
  simp only [List.flatten_cons, List.flatten_nil, List.append_nil]
  after_reads_simp
  rw [h]
  show shapeCast S8x32 (out3 m c) shapeCasts_S8x1x32_S8x32 = targetVar (argX m c) (argVar m c)
  funext y
  idx_vars y
  pointwise [out3]

/-- The kernel's run ends with the layer's results and its arguments unchanged. -/
theorem run (ρ : Dev nD → PrngReg) (hg : ∀ c, Good m c) :
    (θ_run (defs (F := Ideal)) (onTc (τ := τ) main)) ⟨m, fun _ => 0, ρ⟩ fun r => ∀ c : Dev nD,
      (r.2.mem (c.tc.loc main_v30_0) = targetY (argX m c) (argVar m c) (argW m c) (argB m c)
      ∧ r.2.mem (c.tc.loc main_v33) = addi (argCount m c) (Host.reduce IntOp.addi (extui 32 (argMask m c) natLt_1_32) (constantI S_ 32 0#32) reducesTo_S8x4096_S8_d1 h_S_)
      ∧ r.2.mem (c.tc.loc main_v34) = targetMean (argX m c)
      ∧ r.2.mem (c.tc.loc main_v35) = targetVar (argX m c) (argVar m c)) := by
  refine (θ_run _ _ _).mono (fun r h c => ?_) (run_main m ρ)
  obtain ⟨ha, hb⟩ := h c
  refine ⟨(ha 6).trans (arrY m c (hg c)), ?_, ?_, ?_⟩
  · exact (hb main_v33 (Pipeline.mem_restRefs_of main_v33 (by decide) (by decide))).trans (tailCount m c)
  · exact (hb main_v34 (Pipeline.mem_restRefs_of main_v34 (by decide) (by decide))).trans (tailMean m c (hg c))
  · exact (hb main_v35 (Pipeline.mem_restRefs_of main_v35 (by decide) (by decide))).trans (tailVar m c (hg c))
end Cert.Proof.Point
-- ==== Proof.RefTrip.lean ====
module
public import proofs.«01_k».proof.Proof.Target
public import proofs.«01_k».proof.Proof.Gen.ReferenceIdeal.Run
public import Idealize.ShloMosaic.Lib.WordCmp
@[expose] public section
/-!
One trip of the reference's loop, read element by element.
-/
set_option maxRecDepth 16384
noncomputable section
namespace Cert.Proof.Ref
open Idealize.ShloMosaic Idealize.ShloMosaic.TcCoe Idealize.SL.Sem Cert.ReferenceIdeal Cert.ReferenceIdeal.Gen Cert.ReferenceIdeal.Value

/-- The starts of the trip's row: the counter, then zeros. -/
def starts4 (ctr : IVec S_ 32) (a : Fin 4) : Int :=
  ((![ctr, constantI S_ 32 0#32, constantI S_ 32 0#32, constantI S_ 32 0#32] : Fin 4 → IVec S_ 32) a (Shape.Idx.first h_S_)).toInt
/-- The starts of the trip's row of the mask: the counter, then zero. -/
def starts2 (ctr : IVec S_ 32) (a : Fin 2) : Int :=
  ((![ctr, constantI S_ 32 0#32] : Fin 2 → IVec S_ 32) a (Shape.Idx.first h_S_)).toInt

section
variable (ctr : IVec S_ 32) (k : ℕ) (hk : k < 4096) (hc : ctr = fun _ => BitVec.ofNat 32 k)
include hk hc

/-- The trip's row starts at the counter, which needs no clamping. -/
theorem clamp4_0 (h) : Host.clampedStart S4096x8x32x64 S1x8x32x64 h (starts4 ctr) 0 = k := by
  have h0 : starts4 ctr 0 = (k : ℤ) := by subst hc; exact toInt_ofNat_lt (by omega)
  exact Host.clampedStart_of_le h _ 0 k h0 (show k + 1 ≤ 4096 by omega)
/-- The trip's row of the mask starts at the counter, which needs no clamping. -/
theorem clamp2_0 (h) : Host.clampedStart S4096x8 S1x8 h (starts2 ctr) 0 = k := by
  have h0 : starts2 ctr 0 = (k : ℤ) := by subst hc; exact toInt_ofNat_lt (by omega)
  exact Host.clampedStart_of_le h _ 0 k h0 (show k + 1 ≤ 4096 by omega)
end
/-- It starts at the first stream. -/
theorem clamp4_1 (ctr : IVec S_ 32) (h) : Host.clampedStart S4096x8x32x64 S1x8x32x64 h (starts4 ctr) 1 = 0 := rfl
/-- It starts at the first group. -/
theorem clamp4_2 (ctr : IVec S_ 32) (h) : Host.clampedStart S4096x8x32x64 S1x8x32x64 h (starts4 ctr) 2 = 0 := rfl
/-- It starts at a group's first element. -/
theorem clamp4_3 (ctr : IVec S_ 32) (h) : Host.clampedStart S4096x8x32x64 S1x8x32x64 h (starts4 ctr) 3 = 0 := rfl
/-- The row of the mask starts at the first stream. -/
theorem clamp2_1 (ctr : IVec S_ 32) (h) : Host.clampedStart S4096x8 S1x8 h (starts2 ctr) 1 = 0 := rfl

/-- The trip's row of the input. -/
theorem row_apply (X : FVec Ideal S4096x8x32x64 .f32) (ctr : IVec S_ 32) (k : ℕ) (hk : k < 4096)
    (hc : ctr = fun _ => BitVec.ofNat 32 k) (h1 h2) (b : Fin 8) (g : Fin 32) (e : Fin 64) :
    (shapeCast S8x32x64 (Host.dynamicSlice S1x8x32x64 X (starts4 ctr) h1) h2 : FVec Ideal S8x32x64 .f32) (ix3 b g e)
      = X (ix4 (⟨k, hk⟩ : Fin 4096) b g e) := by
  pointwise
  simp only [clamp4_0 ctr k hk hc, clamp4_1, clamp4_2, clamp4_3, Nat.zero_add, Fin.eta]

/-- The trip's row of the mask. -/
theorem mask_apply (M : IVec S4096x8 1) (ctr : IVec S_ 32) (k : ℕ) (hk : k < 4096)
    (hc : ctr = fun _ => BitVec.ofNat 32 k) (h1 h2) (b : Fin 8) :
    (shapeCast S8 (Host.dynamicSlice S1x8 M (starts2 ctr) h1) h2 : IVec S8 1) (ix1 b)
      = M (ix2 (⟨k, hk⟩ : Fin 4096) b) := by
  pointwise
  simp only [clamp2_0 ctr k hk hc, clamp2_1, Nat.zero_add, Fin.eta]

/-- The mean of a group's elements. -/
theorem sum_apply (X : FVec Ideal S8x32x64 .f32) (x : Fin 8 → Fin 32 → Fin 64 → ℝ) (hX : ∀ b g e, X (ix3 b g e) = ((x b g e : ℝ) : EReal))
    (b : Fin 8) (g : Fin 32) :
    (Host.divf (Host.reduceAdd X (constant S_ .f32 0x00000000#32) reducesTo_S8x32x64_S8x32_d2 h_S_) (broadcastInDim S8x32 ![] bcast_S_S8x32 (constant S_ .f32 0x42800000#32)) : FVec Ideal S8x32 .f32) (ix2 b g)
      = (((∑ e : Fin 64, x b g e) / 64 : ℝ) : EReal) := by
  pointwise [hX, ofBits_sixtyfour]
  rw [coe_sum, Ideal.div_coe (by norm_num), ← EReal.coe_mul]
  congr 1
  ring

/-- Writing the trip's row of the output. -/
theorem put_apply (Y : FVec Ideal S4096x8x32x64 .f32) (U : FVec Ideal S8x32x64 .f32) (ctr : IVec S_ 32) (k : ℕ) (hk : k < 4096)
    (hc : ctr = fun _ => BitVec.ofNat 32 k) (h1) (t : Fin 4096) (b : Fin 8) (g : Fin 32) (e : Fin 64) :
    (Host.dynamicUpdateSlice Y (broadcastInDim S1x8x32x64 ![1, 2, 3] bcast_S8x32x64_S1x8x32x64_1_2_3 U) (starts4 ctr) h1 : FVec Ideal S4096x8x32x64 .f32) (ix4 t b g e)
      = if t.val = k then U (ix3 b g e) else Y (ix4 t b g e) := by
  pointwise
  have h0 := clamp4_0 ctr k hk hc h1.1
  by_cases h : t.val = k
  · rw [if_pos h]
    refine (dif_pos ⟨⟨by omega, by omega⟩, by rw [clamp4_1]; omega, by rw [clamp4_2]; omega, by rw [clamp4_3]; omega⟩).trans ?_
    simp only [clamp4_1, clamp4_2, clamp4_3, Nat.sub_zero, Fin.eta]
  · rw [if_neg h]
    exact dif_neg (by omega)

/-- The counter as a real, at least one. -/
theorem count_real (n : ℕ) (hn : n < 2 ^ 31) :
    (FloatOps.sitofp .f32 (IntOp.maxsi (BitVec.ofNat 32 n) 1#32) : Ideal .f32) = (((max n 1 : ℕ) : ℝ) : EReal) := by
  have h : IntOp.maxsi (BitVec.ofNat 32 n) 1#32 = BitVec.ofNat 32 (max n 1) := by
    rcases Nat.eq_zero_or_pos n with rfl | h
    · rfl
    · rw [max_eq_left h]
      have h1 := toInt_ofNat_lt hn
      have h2 : (1#32 : BitVec 32).toInt = 1 := rfl
      unfold IntOp.maxsi
      simp only [BitVec.slt, BitVec.sle, h1, h2]
      split
      · rfl
      · rename_i h3
        simp only [decide_eq_true_eq] at h3
        have : n = 1 := by omega
        subst this; rfl
  rw [h]
  show (((BitVec.ofNat 32 (max n 1)).toInt : ℝ) : EReal) = _
  rw [toInt_ofNat_lt (by omega)]
  norm_num

/-- A mask bit as a real. -/
theorem bit_real : (FloatOps.uitofp .f32 (1#1 : BitVec 1) : Ideal .f32) = ((1 : ℝ) : EReal) := by
  show (((1#1 : BitVec 1).toNat : ℝ) : EReal) = _
  norm_num

section Trip
variable (V : Valuation τ sig (Elt Ideal))
/-- The input, one row a trip. -/
abbrev inV : FVec Ideal S4096x8x32x64 .f32 := V (Proc.devRef .tc main_v4_0)
/-- The mask, one row a trip. -/
abbrev maskV : IVec S4096x8 1 := V (Proc.devRef .tc main_v4_1)
/-- The trip's number. -/
abbrev ctrV : IVec S_ 32 := V (Proc.devRef .tc main_v4_2)
/-- The counts. -/
abbrev countV : IVec S8 32 := V (Proc.devRef .tc main_v4_3)
/-- The means. -/
abbrev meanV : FVec Ideal S8x32 .f32 := V (Proc.devRef .tc main_v4_4)
/-- The variances. -/
abbrev varV : FVec Ideal S8x32 .f32 := V (Proc.devRef .tc main_v4_5)
/-- The rows done so far. -/
abbrev rowsV : FVec Ideal S4096x8x32x64 .f32 := V (Proc.devRef .tc main_v4_6)

/-- The trip's row. -/
abbrev rowT : FVec Ideal S8x32x64 .f32 := res_main_while0b_v13 V
/-- The trip's row of the mask. -/
abbrev maskT : IVec S8 1 := res_main_while0b_v14 V
/-- The trip's group means. -/
abbrev groupT : FVec Ideal S8x32 .f32 := res_main_while0b_v17 V
/-- The counts after the trip. -/
abbrev countT : IVec S8 32 := res_main_while0b_v21 V
/-- The means after the trip. -/
abbrev meanT : FVec Ideal S8x32 .f32 := res_main_while0b_v31 V
/-- The variances after the trip. -/
abbrev varT : FVec Ideal S8x32 .f32 := res_main_while0b_v44 V
/-- The rows after the trip. -/
abbrev rowsT : FVec Ideal S4096x8x32x64 .f32 := step_main_v4_6 V

variable (k : ℕ) (hk : k < 4096) (hc : ctrV V = fun _ => BitVec.ofNat 32 k)
include hc

/-- Trip `k` reads row `k` of the input. -/
theorem rowT_apply (b : Fin 8) (g : Fin 32) (e : Fin 64) : rowT V (ix3 b g e) = inV V (ix4 (⟨k, hk⟩ : Fin 4096) b g e) :=
  row_apply (inV V) (ctrV V) k hk hc _ _ b g e

/-- Trip `k` reads row `k` of the mask. -/
theorem maskT_apply (b : Fin 8) : maskT V (ix1 b) = maskV V (ix2 (⟨k, hk⟩ : Fin 4096) b) :=
  mask_apply (maskV V) (ctrV V) k hk hc _ _ b
omit hc
/-- The group means of a row of reals. -/
theorem groupT_apply (x : Fin 8 → Fin 32 → Fin 64 → ℝ) (hX : ∀ b g e, rowT V (ix3 b g e) = ((x b g e : ℝ) : EReal)) (b : Fin 8) (g : Fin 32) :
    groupT V (ix2 b g) = (((∑ e : Fin 64, x b g e) / 64 : ℝ) : EReal) :=
  sum_apply (rowT V) x hX b g

/-- A trip adds one to every count. -/
theorem countT_eq (hm : maskT V = fun _ => 1#1) (hn : countV V = fun _ => BitVec.ofNat 32 k) : countT V = fun _ => BitVec.ofNat 32 (k + 1) := by
  have h : countT V = addi (countV V) (extui 32 (maskT V) natLt_1_32) := rfl
  rw [h, hm, hn]
  funext j
  pointwise
  rw [BitVec.ofNat_add]
  rfl

include hk in
/-- A trip moves the mean by its distance to the row's group mean over the new count. -/
theorem meanT_apply (b : Fin 8) (g : Fin 32) (hm : maskT V = fun _ => 1#1) (hn : countT V = fun _ => BitVec.ofNat 32 (k + 1))
    {a r : ℝ} (ha : groupT V (ix2 b g) = (a : EReal)) (hr : meanV V (ix2 b g) = (r : EReal)) :
    meanT V (ix2 b g) = ((r + (a - r) / ((k + 1 : ℕ) : ℝ) : ℝ) : EReal) := by
  have h : meanT V = addf (meanV V) (Host.divf (mulf (subf (groupT V) (meanV V)) (broadcastInDim S8x32 ![0, 1] bcast_S8x1_S8x32_0_1 (broadcastInDim S8x1 ![0] bcast_S8_S8x1_0 (uitofp .f32 (maskT V))))) (broadcastInDim S8x32 ![0, 1] bcast_S8x1_S8x32_0_1 (broadcastInDim S8x1 ![0] bcast_S8_S8x1_0 (sitofp .f32 (maxsi (countT V) (broadcastInDim S8 ![] bcast_S_S8 (constantI S_ 32 1#32))))))) := rfl
  rw [h, hm, hn]
  pointwise [count_real (k + 1) (by omega), bit_real, ha, hr]
  have h1 : (((max (k + 1) 1 : ℕ) : ℝ)) = ((k + 1 : ℕ) : ℝ) := by rw [max_eq_left (by omega)]
  have h2 : ((k + 1 : ℕ) : ℝ) ≠ 0 := by positivity
  rw [h1, Ideal.div_coe h2, ← EReal.coe_sub, ← EReal.coe_mul, ← EReal.coe_mul, ← EReal.coe_add]
  congr 1
  ring

include hk in
/-- A trip's new variance, from the old one, the group mean and the means before and after. -/
theorem varT_apply (b : Fin 8) (g : Fin 32) (hm : maskT V = fun _ => 1#1) (hn : countV V = fun _ => BitVec.ofNat 32 k) (hn' : countT V = fun _ => BitVec.ofNat 32 (k + 1))
    {a r r' : ℝ} (ha : groupT V (ix2 b g) = (a : EReal)) (hr : meanV V (ix2 b g) = (r : EReal)) (hr' : meanT V (ix2 b g) = (r' : EReal)) :
    varT V (ix2 b g) = Ideal.div (varV V (ix2 b g) * (((max k 1 : ℕ) : ℝ) : EReal) + (((a - r) * (a - r') : ℝ) : EReal)) (((k + 1 : ℕ) : ℝ) : EReal) := by
  have h : varT V = Host.divf (addf (mulf (varV V) (broadcastInDim S8x32 ![0, 1] bcast_S8x1_S8x32_0_1 (broadcastInDim S8x1 ![0] bcast_S8_S8x1_0 (sitofp .f32 (maxsi (countV V) (broadcastInDim S8 ![] bcast_S_S8 (constantI S_ 32 1#32))))))) (mulf (mulf (subf (groupT V) (meanV V)) (subf (groupT V) (meanT V))) (broadcastInDim S8x32 ![0, 1] bcast_S8x1_S8x32_0_1 (broadcastInDim S8x1 ![0] bcast_S8_S8x1_0 (uitofp .f32 (maskT V)))))) (broadcastInDim S8x32 ![0, 1] bcast_S8x1_S8x32_0_1 (broadcastInDim S8x1 ![0] bcast_S8_S8x1_0 (sitofp .f32 (maxsi (countT V) (broadcastInDim S8 ![] bcast_S_S8 (constantI S_ 32 1#32)))))) := rfl
  rw [h, hm, hn, hn']
  pointwise [count_real (k + 1) (by omega), count_real k (by omega), bit_real, ha, hr, hr']
  have h1 : (((max (k + 1) 1 : ℕ) : ℝ)) = ((k + 1 : ℕ) : ℝ) := by rw [max_eq_left (by omega)]
  rw [h1, ← EReal.coe_sub, ← EReal.coe_sub, ← EReal.coe_mul, ← EReal.coe_mul, mul_one]

include hk hc in
/-- A trip writes its normalised row and leaves the others. -/
theorem rowsT_apply (t : Fin 4096) (b : Fin 8) (g : Fin 32) (e : Fin 64) :
    rowsT V (ix4 t b g e) = if t.val = k then (rowT V (ix3 b g e) - meanT V (ix2 b g)) * Ideal.rsqrt (varT V (ix2 b g) + ((eps : ℝ) : EReal)) else rowsV V (ix4 t b g e) := by
  refine (put_apply (rowsV V) _ (ctrV V) k hk hc updateFits_S4096x8x32x64_S1x8x32x64 t b g e).trans ?_
  refine congrArg (fun z => if t.val = k then z else rowsV V (ix4 t b g e)) ?_
  pointwise [ofBits_eps]
end Trip
end Cert.Proof.Ref
-- ==== Proof.RefValue.lean ====
module
public import proofs.«01_k».proof.Proof.RefTrip
@[expose] public section
/-!
The reference's loop: what its carried arrays hold after each trip, and its four results.
-/
set_option maxRecDepth 16384
noncomputable section
namespace Cert.Proof.Ref
open Idealize.ShloMosaic Idealize.ShloMosaic.StableHlo Idealize.ShloMosaic.TcCoe Idealize.SL.Sem Cert.ReferenceIdeal Cert.ReferenceIdeal.Gen Cert.ReferenceIdeal.Value

/-- The element of a group at a lane. -/
abbrev lane (g : Fin 32) (e : Fin 64) : Fin 2048 := ⟨64 * g.val + e.val, by have := g.isLt; have := e.isLt; omega⟩

/-- Division by one. -/
theorem ediv_one (x : EReal) : Ideal.div x 1 = x := by
  have h := Ideal.div_coe (one_ne_zero : (1 : ℝ) ≠ 0) x
  simpa using h

/-- A row's element, read back. -/
theorem xrow_fin (X : FVec Ideal S8x4096x2048 .f32) (b : Fin 8) (t : Fin 4096) (d : Fin 2048) : xrow X b t d = EReal.toReal (X (ix3 b t d)) := by
  unfold xrow
  rw [dif_pos t.isLt]

/-- What the carried arrays hold after `k` trips. -/
structure Inv (X : FVec Ideal S8x4096x2048 .f32) (P : FVec Ideal S8x32 .f32) (V : Valuation τ sig (Elt Ideal)) (k : ℕ) : Prop where
  inp : ∀ (t : Fin 4096) (b : Fin 8) (g : Fin 32) (e : Fin 64), inV V (ix4 t b g e) = ((xrow X b t (lane g e) : ℝ) : EReal)
  mask : ∀ (t : Fin 4096) (b : Fin 8), maskV V (ix2 t b) = 1#1
  ctr : ctrV V = fun _ => BitVec.ofNat 32 k
  count : countV V = fun _ => BitVec.ofNat 32 k
  mean : ∀ (b : Fin 8) (g : Fin 32), ∃ r : ℝ, meanV V (ix2 b g) = (r : EReal) ∧ (0 < k → r = smean (gmean X b · g) k)
  var : ∀ (b : Fin 8) (g : Fin 32), varV V (ix2 b g) = if k = 0 then P (ix2 b g) else svar (gmean X b · g) (P (ix2 b g)) k
  rows : ∀ (t : Fin 4096) (b : Fin 8) (g : Fin 32) (e : Fin 64), t.val < k → rowsV V (ix4 t b g e)
    = (((xrow X b t (lane g e) - smean (gmean X b · g) (t + 1)) * (srho (gmean X b · g) (P (ix2 b g)) (t + 1)).toReal : ℝ) : EReal)

/-- One trip keeps the account. -/
theorem Inv.step {X : FVec Ideal S8x4096x2048 .f32} {P : FVec Ideal S8x32 .f32} (hP : ∀ (b : Fin 8) (g : Fin 32), 0 < P (ix2 b g) + ((eps : ℝ) : EReal))
    {V : Valuation τ sig (Elt Ideal)} {k : ℕ} (hk : k < 4096) (h : Inv X P V k) : Inv X P (STEP V) (k + 1) := by
  have hmask : maskT V = fun _ => 1#1 := by
    funext j
    idx_vars j
    exact (maskT_apply V k hk h.ctr _).trans (h.mask _ _)
  have hcount : countT V = fun _ => BitVec.ofNat 32 (k + 1) := countT_eq V k hmask h.count
  have hgroup : ∀ (b : Fin 8) (g : Fin 32), groupT V (ix2 b g) = ((gmean X b k g : ℝ) : EReal) := fun b g =>
    groupT_apply V (fun b g e => xrow X b k (lane g e)) (fun b g e => (rowT_apply V k hk h.ctr b g e).trans (h.inp ⟨k, hk⟩ b g e)) b g
  have hmean : ∀ (b : Fin 8) (g : Fin 32), meanT V (ix2 b g) = ((smean (gmean X b · g) (k + 1) : ℝ) : EReal) := fun b g => by
    obtain ⟨r, hr, hr'⟩ := h.mean b g
    refine (meanT_apply V k hk b g hmask hcount (hgroup b g) hr).trans (congrArg _ ?_)
    rcases Nat.eq_zero_or_pos k with rfl | h0
    · rw [smean_one]; push_cast; ring
    · rw [hr' h0, ← smean_succ _ h0]
  have hvar : ∀ (b : Fin 8) (g : Fin 32), varT V (ix2 b g) = svar (gmean X b · g) (P (ix2 b g)) (k + 1) := fun b g => by
    obtain ⟨r, hr, hr'⟩ := h.mean b g
    refine (varT_apply V k hk b g hmask h.count hcount (hgroup b g) hr (hmean b g)).trans ?_
    rw [h.var b g]
    rcases Nat.eq_zero_or_pos k with rfl | h0
    · rw [if_pos rfl, svar_one _ (hP b g), smean_one, sub_self, mul_zero]
      norm_num [Ideal.div_coe]
      exact ediv_one _
    · rw [if_neg h0.ne', hr' h0, max_eq_left (by omega : 1 ≤ k), svar_succ _ (hP b g) h0]
  refine ⟨fun t b g e => ?_, fun t b => ?_, ?_, ?_, fun b g => ⟨_, ?_, fun _ => rfl⟩, fun b g => ?_, fun t b g e ht => ?_⟩
  · exact (congrFun (STEP_main_v4_0 V) _).trans (h.inp t b g e)
  · exact (congrFun (STEP_main_v4_1 V) _).trans (h.mask t b)
  · refine (STEP_main_v4_2 V).trans ?_
    show addi (ctrV V) (constantI S_ 32 1#32) = _
    rw [h.ctr, BitVec.ofNat_add]
    rfl
  · exact (STEP_main_v4_3 V).trans hcount
  · exact (congrFun (STEP_main_v4_4 V) _).trans (hmean b g)
  · rw [if_neg (by omega)]
    exact (congrFun (STEP_main_v4_5 V) _).trans (hvar b g)
  · refine (congrFun (STEP_main_v4_6 V) _).trans ((rowsT_apply V k hk h.ctr t b g e).trans ?_)
    by_cases htk : t.val = k
    · obtain ⟨s, hs⟩ := srho_real (gmean X b · g) (hP b g) (Nat.succ_pos k)
      rw [if_pos htk, rowT_apply V k hk h.ctr b g e, h.inp, hmean, hvar]
      change _ * srho _ _ (k + 1) = _
      rw [htk, hs, ← EReal.coe_sub, ← EReal.coe_mul]
      rfl
    · rw [if_neg htk]
      exact h.rows t b g e (by omega)

/-- The account after `k` trips. -/
theorem Inv.iter {X : FVec Ideal S8x4096x2048 .f32} {P : FVec Ideal S8x32 .f32} (hP : ∀ (b : Fin 8) (g : Fin 32), 0 < P (ix2 b g) + ((eps : ℝ) : EReal))
    {V : Valuation τ sig (Elt Ideal)} (h : Inv X P V 0) : ∀ k, k ≤ 4096 → Inv X P (STEP^[k] V) k
  | 0, _ => h
  | k + 1, hk => by
      rw [Function.iterate_succ_apply']
      exact (Inv.iter hP h k (by omega)).step hP (by omega)

section Entry
variable (m : (ℓ : Loc nD τ sig) → Buf (Elt Ideal) ℓ) (c : Dev nD)
/-- The input. -/
abbrev argX : FVec Ideal S8x4096x2048 .f32 := m (c.tc.loc main_arg0)
/-- The padding mask. -/
abbrev argMask : IVec S8x4096 1 := m (c.tc.loc main_arg1)
/-- The starting counts. -/
abbrev argCount : IVec S8 32 := m (c.tc.loc main_arg2)
/-- The starting means. -/
abbrev argMean : FVec Ideal S8x32 .f32 := m (c.tc.loc main_arg3)
/-- The starting variances. -/
abbrev argVar : FVec Ideal S8x32 .f32 := m (c.tc.loc main_arg4)
/-- The weights. -/
abbrev argW : FVec Ideal S2048 .f32 := m (c.tc.loc main_arg5)
/-- The biases. -/
abbrev argB : FVec Ideal S2048 .f32 := m (c.tc.loc main_arg6)

/-- What the claim asks of the arguments. -/
structure Fresh : Prop where
  mask : ∀ j, argMask m c j = 1#1
  count : ∀ j, argCount m c j = 0#32
  rows : AllReal (argX m c)
  mean : AllReal (argMean m c)
  weight : AllReal (argW m c)
  var : ∀ (b : Fin 8) (g : Fin 32), 0 < argVar m c (ix2 b g) + ((eps : ℝ) : EReal)

/-- The buffers when the loop starts. -/
abbrev entry : Valuation τ sig (Elt Ideal) := entryContents preI m c

/-- The loop's input is the layer's input by rows, groups split off. -/
theorem entry_in : inV (entry m c) = transpose S4096x8x32x64 [1, 0, 2, 3] (shapeCast S8x4096x32x64 (argX m c) shapeCasts_S8x4096x2048_S8x4096x32x64) transposes_S8x4096x32x64_S4096x8x32x64_1_0_2_3 := by
  unfold inV entry
  simp only [entryContents, afterL_cons, afterL_nil]; after_reads_simp; rfl
/-- The loop's mask is the padding mask by rows. -/
theorem entry_mask : maskV (entry m c) = transpose S4096x8 [1, 0] (argMask m c) transposes_S8x4096_S4096x8_1_0 := by
  unfold maskV entry
  simp only [entryContents, afterL_cons, afterL_nil]; after_reads_simp; rfl
/-- The loop starts at trip zero. -/
theorem entry_ctr : ctrV (entry m c) = fun _ => 0#32 := by
  unfold ctrV entry
  simp only [entryContents, afterL_cons, afterL_nil]; after_reads_simp; rfl
/-- The loop starts from the given counts. -/
theorem entry_count : countV (entry m c) = argCount m c := by
  unfold countV entry
  simp only [entryContents, afterL_cons, afterL_nil]; after_reads_simp; rfl
/-- The loop starts from the given means. -/
theorem entry_mean : meanV (entry m c) = argMean m c := by
  unfold meanV entry
  simp only [entryContents, afterL_cons, afterL_nil]; after_reads_simp; rfl
/-- The loop starts from the given variances. -/
theorem entry_var : varV (entry m c) = argVar m c := by
  unfold varV entry
  simp only [entryContents, afterL_cons, afterL_nil]; after_reads_simp; rfl

/-- The account before the first trip. -/
theorem Fresh.inv {m : (ℓ : Loc nD τ sig) → Buf (Elt Ideal) ℓ} {c : Dev nD} (h : Fresh m c) : Inv (argX m c) (argVar m c) (entry m c) 0 := by
  refine ⟨fun t b g e => ?_, fun t b => ?_, entry_ctr m c, ?_, fun b g => ⟨EReal.toReal (argMean m c (ix2 b g)), ?_, fun h => absurd h (by omega)⟩, fun b g => ?_, fun t b g e h => absurd h (by omega)⟩
  · rw [entry_in]
    pointwise
    rw [xrow_fin, h.rows]
    simp only [lane, mul_comm 64]
  · rw [entry_mask]
    pointwise
    exact h.mask _
  · rw [entry_count]
    funext j
    exact h.count j
  · rw [entry_mean]
    exact h.mean _
  · rw [entry_var, if_pos rfl]

/-- The counts after the loop. -/
theorem out_count (h : Fresh m c) : countV (STEP^[4096] (entry m c)) = targetCount :=
  (Inv.iter h.var h.inv 4096 le_rfl).count
/-- The means after the loop. -/
theorem out_mean (h : Fresh m c) : meanV (STEP^[4096] (entry m c)) = targetMean (argX m c) := by
  funext j
  idx_vars j
  obtain ⟨r, hr, hr'⟩ := (Inv.iter h.var h.inv 4096 le_rfl).mean j0 j1
  rw [hr, hr' (by omega)]
  rfl
/-- The variances after the loop. -/
theorem out_var (h : Fresh m c) : varV (STEP^[4096] (entry m c)) = targetVar (argX m c) (argVar m c) := by
  funext j
  idx_vars j
  exact (Inv.iter h.var h.inv 4096 le_rfl).var j0 j1
/-- The rows the reference returns. -/
theorem out_rows (h : Fresh m c) : out_main_v12 (STEP^[4096] (entry m c)) = targetY (argX m c) (argVar m c) (argW m c) (argB m c) := by
  have h5 : STEP^[4096] (entry m c) (Proc.devRef .tc main_arg5) = argW m c := iter_main_arg5 m c 4096
  have h6 : STEP^[4096] (entry m c) (Proc.devRef .tc main_arg6) = argB m c := iter_main_arg6 m c 4096
  have hr := (Inv.iter h.var h.inv 4096 le_rfl).rows
  unfold out_main_v12
  rw [h5, h6]
  change shapeCast S8x4096x2048 (addf (mulf (transpose S8x4096x32x64 [1, 0, 2, 3] (rowsV (STEP^[4096] (entry m c))) _) _) _) _ = _
  funext j
  idx_vars j
  pointwise
  have hl : lane ⟨(j2 : ℕ) / 64, by have := j2.isLt; omega⟩ ⟨(j2 : ℕ) % 64, Nat.mod_lt _ (by omega)⟩ = j2 := by
    refine Fin.ext ?_
    show 64 * ((j2 : ℕ) / 64) + (j2 : ℕ) % 64 = j2
    omega
  rw [hr _ _ _ _ j1.isLt, h.weight (ix1 j2), targetY_apply, ← EReal.coe_mul, hl]
  rfl

/-- The reference's run ends with the layer's results. -/
theorem run_target (ρ : Dev nD → PrngReg) (h : ∀ c, Fresh m c) :
    θ_run (defs (F := Ideal)) (onTc (τ := τ) (main (F := Ideal))) ⟨m, fun _ => 0, ρ⟩ fun r => ∀ c : Dev nD,
      r.2.mem (c.tc.loc main_v12) = targetY (argX m c) (argVar m c) (argW m c) (argB m c)
      ∧ r.2.mem (c.tc.loc main_v4_3) = targetCount
      ∧ r.2.mem (c.tc.loc main_v4_4) = targetMean (argX m c)
      ∧ r.2.mem (c.tc.loc main_v4_5) = targetVar (argX m c) (argVar m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) := by
  refine (θ_run _ _ _).mono (fun r hr c => ?_) (run m ρ)
  obtain ⟨h0, h1, h2, h3, ha⟩ := hr c
  exact ⟨h0.trans (out_rows m c (h c)), h1.trans (out_count m c (h c)), h2.trans (out_mean m c (h c)), h3.trans (out_var m c (h c)), ha⟩
end Entry
end Cert.Proof.Ref
-- ==== Proof.Pre.lean ====
module
public import proofs.«01_k».proof.Proof.RefValue
public import proofs.«01_k».proof.Proof.KernelRun
public import proofs.«01_k».proof.Proof.Gen.Pre_fresh_stream
public import proofs.«01_k».proof.Defs
public import Idealize.ShloMosaic.Lib.StableHlo.Predicate
public import Idealize.ShloMosaic.Lib.ReduceAll
@[expose] public section
/-!
What the precondition says of the arguments.
-/
set_option maxRecDepth 16384
noncomputable section
namespace Cert.Proof
open Idealize.ShloMosaic Idealize.ShloMosaic.TcCoe Idealize.SL.Sem

/-- Two bits whose conjunction is set are both set. -/
theorem both_bits {a b : BitVec 1} (h : IntOp.andi a b = 1#1) : a = 1#1 ∧ b = 1#1 := by
  revert a b; decide

section
open Cert.Pre_fresh_stream

/-- The only index of a scalar. -/
abbrev pt : S_.Idx := Shape.Idx.first Cert.Pre_fresh_stream.Gen.h_S_

/-- Every entry below infinity in magnitude is real. -/
theorem real_of_finite {s : Shape} (X : FVec Ideal s .f32) (hb) (h : ∀ i, cmpf .olt (Host.absf X) (broadcastInDim s ![] hb (constant S_ .f32 0x7F800000#32)) i = 1#1) :
    AllReal X := by
  intro i
  have h1 : BitVec.ofBool (decide (max (X i) (-(X i)) < Ideal.ofBits .f32 0x7F800000#32)) = 1#1 := h i
  rw [StableHlo.Predicate.ofBool_eq_one_iff, decide_eq_true_eq, ofBits_inf, max_lt_iff] at h1
  refine (EReal.coe_toReal h1.1.ne fun hb => ?_).symm
  rw [hb, EReal.neg_bot] at h1
  exact lt_irrefl _ h1.2

/-- The precondition, read: every position is counted, nothing was counted before, the inputs other than the
    starting variance and the bias are real, and the starting variance plus the stabiliser is positive. -/
theorem decode (X : FVec Ideal S8x4096x2048 .f32) (M : IVec S8x4096 1) (N : IVec S8 32) (A P : FVec Ideal S8x32 .f32) (W B : FVec Ideal S2048 .f32)
    (h : fn (F := Ideal) X M N A P W B = fun _ => 1#1) :
    (∀ j, M j = 1#1) ∧ (∀ j, N j = 0#32) ∧ AllReal X ∧ AllReal A ∧ AllReal W ∧ ∀ j, 0 < P j + ((eps : ℝ) : EReal) := by
  have h0 := congrFun h pt
  dsimp only [fn, fn_part1] at h0
  obtain ⟨h1, hp⟩ := both_bits h0
  obtain ⟨h2, hw⟩ := both_bits h1
  obtain ⟨h3, ha⟩ := both_bits h2
  obtain ⟨h4, hx⟩ := both_bits h3
  obtain ⟨hm, hn⟩ := both_bits h4
  refine ⟨fun j => Host.reduce_andi_all _ _ _ _ _ hm j, fun j => ?_, real_of_finite X _ fun j => Host.reduce_andi_all _ _ _ _ _ hx j,
    real_of_finite A _ fun j => Host.reduce_andi_all _ _ _ _ _ ha j, real_of_finite W _ fun j => Host.reduce_andi_all _ _ _ _ _ hw j, fun j => ?_⟩
  · have e := Host.reduce_andi_all _ _ _ _ _ hn j
    exact StableHlo.Predicate.cmpi_eq_iff.mp e
  · have e : BitVec.ofBool (decide (Ideal.ofBits .f32 0x00000000#32 < P j + Ideal.ofBits .f32 0x3727C5AC#32)) = 1#1 :=
      Host.reduce_andi_all _ _ _ _ _ hp j
    rw [StableHlo.Predicate.ofBool_eq_one_iff, decide_eq_true_eq, Ideal.ofBits_zero_f32, ofBits_eps] at e
    exact e
end

/-- The counts the kernel returns, when every position is counted and nothing was counted before. -/
theorem count_target (N : IVec Cert.KernelIdeal.S8 32) (M : IVec Cert.KernelIdeal.S8x4096 1) (hN : ∀ j, N j = 0#32) (hM : ∀ j, M j = 1#1) :
    addi N (Host.reduce IntOp.addi (extui 32 M Cert.KernelIdeal.Gen.natLt_1_32) (constantI Cert.KernelIdeal.S_ 32 0#32)
      Cert.KernelIdeal.Gen.reducesTo_S8x4096_S8_d1 Cert.KernelIdeal.Gen.h_S_) = targetCount := by
  funext j
  have h := StableHlo.Predicate.toNat_reduce_count_cols (n := 8) (m := 4096) (by omega) M Cert.KernelIdeal.Gen.natLt_1_32
    Cert.KernelIdeal.Gen.reducesTo_S8x4096_S8_d1 Cert.KernelIdeal.Gen.h_S_ j
  simp only [hM, Finset.filter_true, Finset.card_univ, Fintype.card_fin] at h
  generalize hR : Host.reduce IntOp.addi (extui 32 M Cert.KernelIdeal.Gen.natLt_1_32) (constantI Cert.KernelIdeal.S_ 32 0#32)
    Cert.KernelIdeal.Gen.reducesTo_S8x4096_S8_d1 Cert.KernelIdeal.Gen.h_S_ = R
  have hRj : (R j).toNat = 4096 := by rw [← hR]; exact h
  show N j + R j = 4096#32
  rw [hN j, BitVec.zero_add]
  exact BitVec.eq_of_toNat_eq (hRj.trans (by rw [BitVec.toNat_ofNat]))

section
variable {m : (ℓ : Loc Cert.KernelIdeal.nD Cert.KernelIdeal.τ Cert.KernelIdeal.sig) → Buf (Elt Ideal) ℓ}

/-- The kernel's account holds under the precondition. -/
theorem good (h : Cert.Pre_KernelIdeal_fresh_stream m) (c : Dev Cert.KernelIdeal.nD) : Point.Good m c := by
  obtain ⟨-, -, hx, -, hw, hp⟩ := decode _ _ _ _ _ _ _ (h c)
  exact ⟨hx, hw, fun b g => hp _⟩

/-- The kernel's counts under the precondition. -/
theorem good_count (h : Cert.Pre_KernelIdeal_fresh_stream m) (c : Dev Cert.KernelIdeal.nD) :
    addi (Point.argCount m c) (Host.reduce IntOp.addi (extui 32 (Point.argMask m c) Cert.KernelIdeal.Gen.natLt_1_32)
      (constantI Cert.KernelIdeal.S_ 32 0#32) Cert.KernelIdeal.Gen.reducesTo_S8x4096_S8_d1 Cert.KernelIdeal.Gen.h_S_) = targetCount := by
  obtain ⟨hm, hn, -⟩ := decode _ _ _ _ _ _ _ (h c)
  exact count_target _ _ hn hm

/-- The reference's account holds at memories that agree with the kernel's on the arguments. -/
theorem fresh (h : Cert.Pre_KernelIdeal_fresh_stream m)
    {m' : (ℓ : Loc Cert.ReferenceIdeal.nD Cert.ReferenceIdeal.τ Cert.ReferenceIdeal.sig) → Buf (Elt Ideal) ℓ} (c : Dev Cert.KernelIdeal.nD)
    (h0 : Ref.argX m' c = m (c.tc.loc Cert.KernelIdeal.main_arg0)) (h1 : Ref.argMask m' c = m (c.tc.loc Cert.KernelIdeal.main_arg1))
    (h2 : Ref.argCount m' c = m (c.tc.loc Cert.KernelIdeal.main_arg2)) (h3 : Ref.argMean m' c = m (c.tc.loc Cert.KernelIdeal.main_arg3))
    (h4 : Ref.argVar m' c = m (c.tc.loc Cert.KernelIdeal.main_arg4)) (h5 : Ref.argW m' c = m (c.tc.loc Cert.KernelIdeal.main_arg5)) :
    Ref.Fresh m' c := by
  obtain ⟨hm, hn, hx, ha, hw, hp⟩ := decode _ _ _ _ _ _ _ (h c)
  refine ⟨?_, ?_, ?_, ?_, ?_, fun b g => ?_⟩
  · rw [h1]; exact hm
  · rw [h2]; exact hn
  · rw [h0]; exact hx
  · rw [h3]; exact ha
  · rw [h5]; exact hw
  · rw [h4]; exact hp _
end
end Cert.Proof
-- ==== Proof.lean ====
/-
The certificate of the kernel: its frames, the frame of the reference, and the equality of the two programs' four
results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fresh_stream
public import proofs.«01_k».proof.Proof.KernelRun
public import proofs.«01_k».proof.Proof.RefValue
public import proofs.«01_k».proof.Proof.Pre
public import Idealize.ShloMosaic.Lib.Claim
public import Idealize.ShloMosaic.Lib.Pipeline.ValueKit
public import Idealize.ShloMosaic.Adequacy
public import Idealize.ShloMosaic.Init

@[expose] public section

noncomputable section

namespace Cert.Proof

open Idealize.ShloMosaic Idealize.SL.Sem Cert.Kernel

/-- The kernel terminates, its arguments unchanged and its counters at zero. -/
theorem frameKernel : Cert.quiescent_Kernel := fun m ρ _ => Cert.Kernel.Gen.frame m ρ
/-- So does the kernel over the extended reals. -/
theorem frameKernelIdeal : Cert.quiescent_KernelIdeal := fun m ρ _ => Cert.KernelIdeal.Gen.frame m ρ
/-- So it does under the precondition. -/
theorem frameKernelIdealPre : Cert.quiescent_KernelIdeal_pre_fresh_stream := fun m ρ _ => Cert.KernelIdeal.Gen.frame m ρ
/-- So does the reference over the extended reals. -/
theorem frameReferenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)
/-- So it does under the precondition. -/
theorem frameReferenceIdealPre : Cert.quiescent_ReferenceIdeal_pre_fresh_stream := fun m ρ _ => frameReferenceIdeal m ρ trivial

/-- The two programs return the same four arrays. -/
theorem algebraic : Cert.algebraic_KernelIdeal_ReferenceIdeal_pre_fresh_stream := by
  intro m g m' g' hpre hargs
  refine ⟨fun c => targetY (Operands.argX m c) (Operands.argVar m c) (Operands.argW m c) (Operands.argB m c), fun _ => targetCount,
    fun c => targetMean (Operands.argX m c), fun c => targetVar (Operands.argX m c) (Operands.argVar m c), ?_, ?_⟩
  · refine (θ_run _ _ _).mono (fun r h c => ?_) (θ_run_and (Point.run m g fun c => good hpre c) (Cert.KernelIdeal.Gen.unchanged m g))
    obtain ⟨h0, h1, h2, h3⟩ := h.1 c
    exact ⟨h0, h1.trans (good_count hpre c), h2, h3, h.2 c⟩
  · refine (θ_run _ _ _).mono (fun r h c => ?_) (Ref.run_target m' g' fun c => ?_)
    · obtain ⟨e0, e1, e2, e3, e4, e5, e6⟩ := hargs c
      obtain ⟨h0, h1, h2, h3, ha⟩ := h c
      refine ⟨h0.trans ?_, h1, h2.trans ?_, h3.trans ?_, ha⟩
      · unfold Ref.argX Ref.argVar Ref.argW Ref.argB
        rw [e0, e4, e5, e6]
      · unfold Ref.argX
        rw [e0]
      · unfold Ref.argX Ref.argVar
        rw [e0, e4]
    · obtain ⟨e0, e1, e2, e3, e4, e5, e6⟩ := hargs c
      exact fresh hpre c e0 e1 e2 e3 e4 e5

/-- Everything the certificate claims. -/
theorem claim : Cert.Claim := ⟨Cert.Kernel.Gen.facts, Cert.KernelIdeal.Gen.facts, Cert.ReferenceIdeal.Gen.facts,
  Cert.Pre_fresh_stream.Gen.facts, frameKernel, frameKernelIdeal, frameKernelIdealPre, frameReferenceIdeal, frameReferenceIdealPre,
  trivial, algebraic⟩

end Cert.Proof

end
